-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S3x256x256 : Shape := ⟨3, ![3, 256, 256]⟩
abbrev S3 : Shape := ⟨1, ![3]⟩
abbrev S_ : Shape := ⟨0, ![]⟩
abbrev S1 : Shape := ⟨1, ![1]⟩
abbrev S1x256x256 : Shape := ⟨3, ![1, 256, 256]⟩

abbrev nBuf : Space → Nat
  | .hbm => 4
  | .vmem => 6
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S512x256, .f32⟩
  | .hbm, ⟨3, _⟩ => ⟨S256x256, .bf16⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x256, .bf16⟩
  | .local _ .vmem, ⟨4, _⟩ => ⟨S256x256, .bf16⟩
  | .local _ .vmem, ⟨5, _⟩ => ⟨S3x256x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let v44 : BitVec 32 := Scalar.remsi v43 c4_i32_29
  let c1_i32_33 : BitVec 32 := 1#32
  let v45 : BitVec 32 := Scalar.muli v44 c1_i32_33
  let v46 : BitVec 32 := Scalar.addi c0_i32_34 v45
  v46.toNat
def k0_dev5 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_37 : BitVec 32 := 2#32
  let v53 : BitVec 32 := Scalar.addi v2 c2_i32_37
  let c4_i32_38 : BitVec 32 := 4#32
  let v54 : BitVec 32 := Scalar.remsi v53 c4_i32_38
  let c1_i32_42 : BitVec 32 := 1#32
  let v55 : BitVec 32 := Scalar.muli v54 c1_i32_42
  let v56 : BitVec 32 := Scalar.addi c0_i32_43 v55
  v56.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_46 : BitVec 32 := 3#32
  let v63 : BitVec 32 := Scalar.addi v2 c3_i32_46
  let c4_i32_47 : BitVec 32 := 4#32
  let v64 : BitVec 32 := Scalar.remsi v63 c4_i32_47
  let c1_i32_51 : BitVec 32 := 1#32
  let v65 : BitVec 32 := Scalar.muli v64 c1_i32_51
  let v66 : BitVec 32 := Scalar.addi c0_i32_52 v65
  v66.toNat
-- ==== ReferenceIdeal.lean ====
abbrev S256x256 : Shape := ⟨2, ![256, 256]⟩
abbrev S256x2048 : Shape := ⟨2, ![256, 2048]⟩
abbrev S2048x256 : Shape := ⟨2, ![2048, 256]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x2048, .f32⟩
  | .hbm, ⟨2, _⟩ => ⟨S2048x256, .f32⟩
  | .hbm, ⟨3, _⟩ => ⟨S256x2048, .f32⟩
  | .hbm, ⟨4, _⟩ => ⟨S_, .f32⟩
  | .hbm, ⟨5, _⟩ => ⟨S256x2048, .f32⟩
  | .hbm, ⟨6, _⟩ => ⟨S256x2048, .f32⟩
  | .hbm, ⟨7, _⟩ => ⟨S256x256, .f32⟩
  | .hbm, ⟨8, _⟩ => ⟨S256x256, .bf16⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Cells.lean ====
/-
The objects of the proof: the devices' neighbours, the buffers and semaphores the kernel names, the cells (a semaphore of
a device) and the values that move.

Four devices each hold a column block of `W1` and the matching row block of `W2`. Device `c` computes its partial product
(`part`), rounds it (`sent`), copies that to each of the three other devices, and adds the three it receives to its own
(`outAt`). All of it is stated at any float values `F`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The kernel's own rounds algebra: a cell's duties are named by `Fin 3` (the barrier has three payers). -/
abbrev UB : Type := URounds (GSem nD τ sig) (Fin 3)
/-- The launch theorem's copy beside it. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Neighbours -/

set_option backward.proofsInPublic true in
/-- The device one, two or three places further round the ring of four. -/
def hop1 (c : Dev nD) : Dev nD := ⟨(c.val + 1) % 4, Nat.mod_lt _ (by decide)⟩
set_option backward.proofsInPublic true in
def hop2 (c : Dev nD) : Dev nD := ⟨(c.val + 2) % 4, Nat.mod_lt _ (by decide)⟩
set_option backward.proofsInPublic true in
def hop3 (c : Dev nD) : Dev nD := ⟨(c.val + 3) % 4, Nat.mod_lt _ (by decide)⟩

theorem hop3_hop1 (c : Dev nD) : hop3 (hop1 c) = c := by revert c; decide
theorem hop1_hop3 (c : Dev nD) : hop1 (hop3 c) = c := by revert c; decide
theorem hop2_hop2 (c : Dev nD) : hop2 (hop2 c) = c := by revert c; decide
theorem eq_hop1_iff (c d : Dev nD) : c = hop1 d ↔ d = hop3 c := by revert c d; decide
theorem eq_hop2_iff (c d : Dev nD) : c = hop2 d ↔ d = hop2 c := by revert c d; decide
theorem eq_hop3_iff (c d : Dev nD) : c = hop3 d ↔ d = hop1 c := by revert c d; decide

/-- Turning the ring by one place, and by two. -/
def turn1 : Dev nD ≃ Dev nD := ⟨hop1, hop3, hop3_hop1, hop1_hop3⟩
def turn2 : Dev nD ≃ Dev nD := ⟨hop2, hop2, hop2_hop2, hop2_hop2⟩

/-- The devices the kernel names: signals and transfers both go one, two and three places on. -/
theorem dev1_eq (c : Dev nD) : (⟨k0_dev1 c, k0_dev1_lt c⟩ : Dev nD) = hop1 c := Fin.ext (k0_dev1_eq c)
theorem dev2_eq (c : Dev nD) : (⟨k0_dev2 c, k0_dev2_lt c⟩ : Dev nD) = hop2 c := Fin.ext (k0_dev2_eq c)
theorem dev3_eq (c : Dev nD) : (⟨k0_dev3 c, k0_dev3_lt c⟩ : Dev nD) = hop3 c := Fin.ext (k0_dev3_eq c)
theorem dev4_eq (c : Dev nD) : (⟨k0_dev4 c, k0_dev4_lt c⟩ : Dev nD) = hop1 c := Fin.ext (k0_dev4_eq c)
theorem dev5_eq (c : Dev nD) : (⟨k0_dev5 c, k0_dev5_lt c⟩ : Dev nD) = hop2 c := Fin.ext (k0_dev5_eq c)
theorem dev6_eq (c : Dev nD) : (⟨k0_dev6 c, k0_dev6_lt c⟩ : Dev nD) = hop3 c := Fin.ext (k0_dev6_eq c)

/-! ## Buffers -/

/-- The rounded partial product, ready to be sent. -/
abbrev sM : Memref sig .tc .vmem S256x256 .bf16 := Memref.whole cc0_scratch4
/-- The three landing slots, in one buffer. -/
abbrev cM : Memref sig .tc .vmem S3x256x256 .bf16 := Memref.whole cc0_scratch5
abbrev slotRect (o : ℕ) (h : ∀ a, (![o, 0, 0] : Fin 3 → ℕ) a + S1x256x256.size a ≤ S3x256x256.size a) : Rect S3x256x256 :=
  Rect.unit (s := S3x256x256) ![o, 0, 0] S1x256x256.size h
/-- Slot `o` of the landing buffer, read as a matrix. -/
abbrev slot (o : ℕ) (h : ∀ a, (![o, 0, 0] : Fin 3 → ℕ) a + S1x256x256.size a ≤ S3x256x256.size a) :
    Memref sig .tc .vmem S256x256 .bf16 :=
  (cM.slice (slotRect o h) (fun _ => rfl)).squeeze S256x256 squeezes_S1x256x256_S256x256
abbrev slot0 := slot 0 inb_S3x256x256_S1x256x256_0_0_0
abbrev slot1 := slot 1 inb_S3x256x256_S1x256x256_1_0_0
abbrev slot2 := slot 2 inb_S3x256x256_S1x256x256_2_0_0

/-! ## Semaphores and cells -/

abbrev barS : Sem sig := (SemArray.scalar (sig.barrier 0 rfl) : Sems sig S_).sem
/-- Entry `o` of an array of three DMA semaphores. -/
abbrev entry (A : DmaSems sig S3) (o : ℕ) (h : ∀ a, (![o] : Fin 1 → ℕ) a + S1.size a ≤ S3.size a) : DmaSem sig :=
  ((A.slice (Rect.unit (s := S3) ![o] S1.size h)).squeeze S_ squeezes_S1_S_).sem
abbrev in0 := entry cc0_scratch6 0 inb_S3_S1_0
abbrev in1 := entry cc0_scratch6 1 inb_S3_S1_1
abbrev in2 := entry cc0_scratch6 2 inb_S3_S1_2
abbrev outS : DmaSem sig := (cc0_scratch7 : DmaSems sig S_).sem
abbrev send0 := entry cc0_scratch8 0 inb_S3_S1_0
abbrev send1 := entry cc0_scratch8 1 inb_S3_S1_1
abbrev send2 := entry cc0_scratch8 2 inb_S3_S1_2
abbrev recv0 := entry cc0_scratch9 0 inb_S3_S1_0
abbrev recv1 := entry cc0_scratch9 1 inb_S3_S1_1
abbrev recv2 := entry cc0_scratch9 2 inb_S3_S1_2

abbrev barCell (c : Dev nD) : GSem nD τ sig := ((c : Thread nD τ), .reg barS)
abbrev dmaCell (c : Dev nD) (q : DmaSem sig) : GSem nD τ sig := ((c : Thread nD τ), .dma q)

/-- The kernel's own ten DMA semaphores, in the order of their arrays. -/
abbrev osem : Fin 10 → SemLoc sig := fun
  | 0 => .dma in0 | 1 => .dma in1 | 2 => .dma in2 | 3 => .dma outS | 4 => .dma send0 | 5 => .dma send1 | 6 => .dma send2
  | 7 => .dma recv0 | 8 => .dma recv1 | 9 => .dma recv2
/-- The same with the barrier semaphore before them. -/
abbrev csem : Fin 11 → SemLoc sig := fun
  | 0 => .reg barS
  | 1 => .dma in0 | 2 => .dma in1 | 3 => .dma in2 | 4 => .dma outS | 5 => .dma send0 | 6 => .dma send1 | 7 => .dma send2
  | 8 => .dma recv0 | 9 => .dma recv1 | 10 => .dma recv2
abbrev kcell (ck : Dev nD × Fin 11) : GSem nD τ sig := ((ck.1 : Thread nD τ), csem ck.2)

/-! ## What a transfer credits -/

/-- A block of `x`, of `W1` and of `W2` brought into VMEM; and a `bf16` matrix of the result's shape. -/
abbrev Nx : ℕ := (Memref.whole cc0_scratch0 : Memref sig .tc .vmem S256x256 .f32).view.dmaCredit
abbrev Nu : ℕ := (Memref.whole cc0_scratch1 : Memref sig .tc .vmem S256x512 .f32).view.dmaCredit
abbrev Nv : ℕ := (Memref.whole cc0_scratch2 : Memref sig .tc .vmem S512x256 .f32).view.dmaCredit
abbrev N : ℕ := sM.view.dmaCredit
theorem Nx_pos : 0 < Nx := View.dmaCredit_pos _ (by decide)
theorem Nu_pos : 0 < Nu := View.dmaCredit_pos _ (by decide)
theorem Nv_pos : 0 < Nv := View.dmaCredit_pos _ (by decide)
theorem N_pos : 0 < N := View.dmaCredit_pos _ (by decide)

/-! ## The values -/

variable (m : (ℓ : Loc nD τ sig) → Buf (Elt F) ℓ)

/-- Device `c`'s arguments at launch. -/
def xAt (c : Dev nD) : (main_arg0 : Ref sig .tc).ty.Contents (Elt F) := m ((c : Thread nD τ).loc main_arg0)
def uAt (c : Dev nD) : (main_arg1 : Ref sig .tc).ty.Contents (Elt F) := m ((c : Thread nD τ).loc main_arg1)
def vAt (c : Dev nD) : (main_arg2 : Ref sig .tc).ty.Contents (Elt F) := m ((c : Thread nD τ).loc main_arg2)

/-- Device `c`'s partial product. -/
def part (c : Dev nD) : FVec F S256x256 .f32 := k0_pay1 (xAt m c) (uAt m c) (vAt m c)
/-- What device `c` sends: its partial product, rounded. -/
def sent (c : Dev nD) : (cc0_scratch4 : Ref sig .tc).ty.Contents (Elt F) := k0_pay2 (xAt m c) (uAt m c) (vAt m c)

theorem casts_up : S256x256.ShapeCasts S1x256x256 := by decide
/-- A matrix as the one plane of a `1 × 256 × 256` array, the form in which a landing slot is loaded. -/
def plane (X : Vec F S256x256 .bf16) : Vec F S1x256x256 .bf16 := shapeCast S1x256x256 X casts_up

/-- Device `c`'s result: its own partial product and the three it receives, in the kernel's order, rounded. -/
def outAt (c : Dev nD) : (main_v1 : Ref sig .tc).ty.Contents (Elt F) :=
  k0_pay4 (k0_pay3 (part m c) (plane (sent m (hop3 c)))) (plane (sent m (hop1 c))) (plane (sent m (hop2 c)))

omit [FloatOps F] in
/-- Casting up undoes casting down. -/
theorem plane_down (v : Vec F S1x256x256 .bf16) : plane (shapeCast S256x256 v shapeCasts_S1x256x256_S256x256) = v := by
  unfold plane
  funext i
  show v (Shape.reshapeEquiv _ (Shape.reshapeEquiv _ i)) = v i
  rw [Shape.reshapeEquiv_reshapeEquiv, Shape.reshapeEquiv_self]

end Cert.Mlp

end
-- ==== Proof.Schedule.lean ====
/-
The protocol: what each cell's one round asks for and hands over, what each device owes at launch, and the levels that
keep the waits from deadlock.

* A barrier cell has three payers, one unit each. Each hands over one of its own landing slots and the fact that its
  receive cell is open — what a transfer into that slot needs.
* A receive cell is paid by the one transfer into its slot; the payload is the slot holding what that device sent.
* A send cell is paid by the same transfer; the payload is the share of the send buffer it read.
* The cells of the local copies return source and destination.
-/
module

public import proofs.«01_k».proof.Proof.Cells

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Assertions about buffers -/

/-- Buffer `b` of device `c`, all of it, at contents `f`. -/
abbrev buf (c : Dev nD) (b : Ref sig .tc) (f : b.ty.Contents (Elt F)) : sProp 𝕄 :=
  (((c : Thread nD τ).loc b) ↦{fullShare} (f : Buf (Elt F) ((c : Thread nD τ).loc b)))
/-- A landing slot of device `c`, at any contents. -/
def slotAny (c : Dev nD) (M : Memref sig .tc .vmem S256x256 .bf16) : sProp 𝕄 :=
  iprop(∃ f : Buf (Elt F) (M.view.loc (c : Thread nD τ)), M.view.loc (c : Thread nD τ) ↦[M.view.set]{fullShare} f)
/-- A share of device `c`'s send buffer holding what it sends. -/
def sendShare (c : Dev nD) (q : PosShare TreeShare) : sProp 𝕄 :=
  sM.view.loc (c : Thread nD τ) ↦[sM.view.set]{q} sent m c

omit [FloatOps F] in
instance slotAny_storable (c : Dev nD) (M) : BI.Storable (upEmb : UEmb _ 𝕄) (slotAny (F := F) c M) := by unfold slotAny; infer_instance
instance sendShare_storable (c : Dev nD) (q) : BI.Storable (upEmb : UEmb _ 𝕄) (sendShare (F := F) m c q) := by
  unfold sendShare; infer_instance

/-! ## The schedule -/

/-- What duty `d` of device `c`'s barrier cell hands over: a slot of the device that pays it. -/
def barPay (c : Dev nD) : Fin 3 → sProp 𝕄
  | 0 => iprop(slotAny (hop3 c) slot0 ∗ reached ER (dmaCell (hop3 c) recv0) 0)
  | 1 => iprop(slotAny (hop2 c) slot1 ∗ reached ER (dmaCell (hop2 c) recv1) 0)
  | 2 => iprop(slotAny (hop1 c) slot2 ∗ reached ER (dmaCell (hop1 c) recv2) 0)

/-- What the transfer on device `c`'s DMA semaphore number `n` hands over. -/
def dmaPay (c : Dev nD) : ℕ → sProp 𝕄
  | 0 => iprop(buf c cc0_scratch0 (xAt m c) ∗ buf c main_arg0 (xAt m c))
  | 1 => iprop(buf c cc0_scratch1 (uAt m c) ∗ buf c main_arg1 (uAt m c))
  | 2 => iprop(buf c cc0_scratch2 (vAt m c) ∗ buf c main_arg2 (vAt m c))
  | 3 => iprop(buf c main_v1 (outAt m c) ∗ buf c cc0_scratch3 (outAt m c))
  | 4 => sendShare m c fullShare.left
  | 5 => sendShare m c fullShare.right.left
  | 6 => sendShare m c fullShare.right.right
  | 7 => owns (c : Thread nD τ) slot0 fullShare (sent m (hop1 c))
  | 8 => owns (c : Thread nD τ) slot1 fullShare (sent m (hop2 c))
  | 9 => owns (c : Thread nD τ) slot2 fullShare (sent m (hop3 c))
  | _ => iprop(emp)

/-- The credit of the transfer on DMA semaphore number `n`. -/
def dmaAmt : ℕ → ℕ
  | 0 => Nx
  | 1 => Nu
  | 2 => Nv
  | _ => N

theorem dmaAmt_pos (n : ℕ) : 0 < dmaAmt n := by
  unfold dmaAmt
  split
  · exact Nx_pos
  · exact Nu_pos
  · exact Nv_pos
  · exact N_pos

/-- One round for every cell: three duties of a unit at a barrier cell, one duty at a DMA cell. -/
def sched : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma q => dmaAmt q.val
  payload g _ d := match g.2 with | .reg _ => barPay g.1.1 d | .dma q => dmaPay m g.1.1 q.val
  amount_pos g _ _ _ := by
    match g with
    | (_, .reg _) => exact Nat.one_pos
    | (_, .dma q) => exact dmaAmt_pos _

omit [FloatOps F] in
instance barPay_storable (c : Dev nD) (d : Fin 3) : BI.Storable (upEmb : UEmb _ 𝕄) (barPay (F := F) c d) := by
  unfold barPay; split <;> infer_instance
instance dmaPay_storable (c : Dev nD) (n : ℕ) : BI.Storable (upEmb : UEmb _ 𝕄) (dmaPay (F := F) m c n) := by
  unfold dmaPay; split <;> infer_instance
instance sched_storable (g : GSem nD τ sig) (r : ℕ) (d : Fin 3) :
    BI.Storable (upEmb : UEmb _ 𝕄) ((sched (F := F) m).payload g r d) := by
  match g with
  | (t, .reg _) => exact barPay_storable t.1 d
  | (t, .dma q) => exact dmaPay_storable m t.1 q.val

section Tables
variable (c : Dev nD) (q : DmaSem sig)

theorem duties_bar : (sched (F := F) m).duties (barCell c) 0 = Finset.univ := by
  dsimp only [sched]; exact if_pos ⟨rfl, rfl⟩
theorem duties_dma : (sched (F := F) m).duties (dmaCell c q) 0 = {0} := by
  dsimp only [sched]; exact if_pos ⟨rfl, rfl⟩
theorem duties_later (g : GSem nD τ sig) (r : ℕ) (hr : 1 ≤ r) : (sched (F := F) m).duties g r = ∅ :=
  if_neg fun h => absurd h.1 (by omega)
theorem mem_bar (d : Fin 3) : d ∈ (sched (F := F) m).duties (barCell c) 0 := by rw [duties_bar]; exact Finset.mem_univ _
theorem mem_dma : (0 : Fin 3) ∈ (sched (F := F) m).duties (dmaCell c q) 0 := by rw [duties_dma]; exact Finset.mem_singleton_self _

theorem amount_bar (d : Fin 3) : (sched (F := F) m).amount (barCell c) 0 d = 1 := rfl
theorem amount_dma (d : Fin 3) : (sched (F := F) m).amount (dmaCell c q) 0 d = dmaAmt q.val := rfl

/-- A barrier cell's round is three units, -/
theorem expect_bar : (sched (F := F) m).expect (barCell c) 0 = 3 := by
  unfold Schedule.expect Schedule.amountOf
  rw [duties_bar, Finset.sum_congr rfl fun d _ => amount_bar m c d]
  rfl
/-- a DMA cell's the one transfer. -/
theorem expect_dma : (sched (F := F) m).expect (dmaCell c q) 0 = dmaAmt q.val := by
  unfold Schedule.expect Schedule.amountOf
  rw [duties_dma, Finset.sum_singleton, amount_dma]

/-- The three slots that a device holds after its barrier. -/
theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_univ_eq_bigSepL [0, 1, 2] (by decide) (by decide)]
  rfl
theorem rest_dma : bigSep ((sched (F := F) m).duties (dmaCell c q) 0 \ ∅) (fun d => (sched (F := F) m).payload (dmaCell c q) 0 d)
    = dmaPay m c q.val := by
  rw [Finset.sdiff_empty, duties_dma, bigSep_singleton]
  rfl

end Tables

/-! ## What a device owes -/

/-- What device `c` still owes with one, two or all three transfers ahead of it; -/
def owe1 (c : Dev nD) : CellTallies nD τ sig Unit := 0 + tallyAt (dmaCell (hop3 c) recv0) () N
def owe2 (c : Dev nD) : CellTallies nD τ sig Unit := owe1 c + tallyAt (dmaCell (hop2 c) recv1) () N
def owe3 (c : Dev nD) : CellTallies nD τ sig Unit := owe2 c + tallyAt (dmaCell (hop1 c) recv2) () N
/-- with those and one, two or three signals. -/
def owe4 (c : Dev nD) : CellTallies nD τ sig Unit := owe3 c + tallyAt (barCell (hop3 c)) () 1
def owe5 (c : Dev nD) : CellTallies nD τ sig Unit := owe4 c + tallyAt (barCell (hop2 c)) () 1
def owe6 (c : Dev nD) : CellTallies nD τ sig Unit := owe5 c + tallyAt (barCell (hop1 c)) () 1

/-! ## Levels -/

def L (g : GSem nD τ sig) : Finset Unit := if g.1.2 = .tc then {()} else ∅
/-- Receive cells above barrier cells, those above all others. -/
def lv (g : GSem nD τ sig) (_ : Unit) : ℕ := match g.2 with | .reg _ => 1 | .dma q => if 7 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-- After its signals a device owes receive cells only. -/
theorem owe3_pos {c : Dev nD} {g : GSem nD τ sig} {u : Unit} (h : 0 < owe3 c g u) :
    g = dmaCell (hop3 c) recv0 ∨ g = dmaCell (hop2 c) recv1 ∨ g = dmaCell (hop1 c) recv2 := by
  unfold owe3 owe2 owe1 at h
  rw [zero_add, Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

omit [FloatOps F] in
/-- So it may wait on any cell of a lower level: its barrier, its local copies. -/
theorem mayWait_low (c : Dev nD) (sm : SemLoc sig) (h : lv ((c : Thread nD τ), sm) () ≤ 1) :
    (levAts L lv : sProp 𝕄) ⊢ MayWait (c : Thread nD τ) sm () (owe3 c) :=
  MayOwe.of_cut (L := L) (lev := lv) 1 (fun p hp => by rw [Finset.mem_singleton.mp hp, L_tc]; exact Finset.mem_singleton_self _)
    (fun g u hg => by rcases owe3_pos hg with rfl | rfl | rfl <;> exact Finset.mem_singleton_self _)
    (fun p hp => by rw [Finset.mem_singleton.mp hp]; exact h)
    (fun g u hg => by rcases owe3_pos hg with rfl | rfl | rfl <;> exact Nat.one_lt_two)

omit [FloatOps F] in
/-- A device that owes nothing may wait anywhere. -/
theorem mayWait_zero (c : Dev nD) (sm : SemLoc sig) : (levAts L lv : sProp 𝕄) ⊢ MayWait (c : Thread nD τ) sm () 0 := by
  rw [MayWait_zero]; iintro -; iempintro

end Cert.Mlp

end
-- ==== Proof.Steps.lean ====
/-
One rule for each kind of step the kernel takes, at the protocol's cells: a barrier signal, the barrier wait, a transfer
into another device's slot, a wait on a DMA semaphore (after which the cell is closed), a load of a landed slot.
-/
module

public import proofs.«01_k».proof.Proof.Schedule

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What every device knows -/

/-- Every cell's invariant, at the name `K` gives it, and that every cell's round is open. -/
def records (K : Dev nD × Fin 11 → ℕ) : sProp 𝕄 :=
  iprop((bigSep Finset.univ fun ck : Dev nD × Fin 11 => cellInv ER (sched m) (K ck) (kcell ck))
    ∗ bigSep Finset.univ fun ck : Dev nD × Fin 11 => reached ER (kcell ck) 0)

instance records_persistent (K : Dev nD × Fin 11 → ℕ) : BI.Persistent (records (F := F) m K) := by unfold records; infer_instance

theorem inv_of (K : Dev nD × Fin 11 → ℕ) (ck : Dev nD × Fin 11) : records m K ⊢ (cellInv ER (sched m) (K ck) (kcell ck) : sProp 𝕄) := by
  have h : (bigSep Finset.univ fun ck : Dev nD × Fin 11 => (cellInv ER (sched m) (K ck) (kcell ck) : sProp 𝕄))
      ⊢ cellInv ER (sched m) (K ck) (kcell ck) := bigSep_elim (Finset.mem_univ ck)
  unfold records
  iintro ⟨H, -⟩
  iapply h; iexact H
theorem open_of (K : Dev nD × Fin 11 → ℕ) (ck : Dev nD × Fin 11) : records m K ⊢ (reached ER (kcell ck) 0 : sProp 𝕄) := by
  have h : (bigSep Finset.univ fun ck : Dev nD × Fin 11 => (reached ER (kcell ck) 0 : sProp 𝕄)) ⊢ reached ER (kcell ck) 0 :=
    bigSep_elim (Finset.mem_univ ck)
  unfold records
  iintro ⟨-, H⟩
  iapply h; iexact H

/-- Device `c` owes `O`, whatever it has waited on. -/
def owing (c : Dev nD) (O : CellTallies nD τ sig Unit) : sProp 𝕄 := iprop(∃ W, owes (c : Thread nD τ) O W)

/-! ## Steps -/

section Steps

variable (K : Dev nD × Fin 11 → ℕ)

/-- A unit signalled to device `d`'s barrier cell pays duty `j` with its payload. -/
theorem wp_notify (c n d : Dev nD) (hn : n = d) (j : Fin 3) (u : ℕ) (hu : u = 1) (O : CellTallies nD τ sig Unit)
    {α : Type} {Q : α → sProp 𝕄} {k : PUnit → Prog (TpuEff nD τ sig (Elt F) Λ₀ .tc) α} :
    iprop(records m K ∗ owing c (O + tallyAt (barCell d) () 1) ∗ dutyTok ER (barCell d) 0 j ∗ barPay d j)
      ⊢ iprop((owing c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS u) k) Q) := by
  subst hn hu
  unfold owing
  iintro ⟨#HR, ⟨%W, HO⟩, Ht, Hp⟩ Hk
  iapply (Rounds.wp_signal 𝒱₀ ER (sched m) (c : Thread nD τ) none (dst := (n : Thread nD τ)) (κ := K (n, 0)) (r := 0) (d := j)
      (mem_bar m n j) (amount_bar m n j) () O rfl (W := W)) $$ [HO Ht Hp]
  · isplitr; · iapply (inv_of m K (n, 0)); iexact HR
    isplitl [HO]; · iexact HO
    isplitl [Ht]; · iexact Ht
    isplitl [Hp]; · iapply (Entails.of_eq (show (barPay n j : sProp 𝕄) = (sched m).payload (barCell n) 0 j from rfl)); iexact Hp
    iapply (open_of m K (n, 0)); iexact HR
  iintro HO
  iapply Hk
  iexists W; iexact HO

/-- The wait for three units on a device's own barrier cell brings the three slots; the cell is closed. -/
theorem wp_gather (c : Dev nD) (u : ℕ) (hu : u = 3) {α : Type} {Q : α → sProp 𝕄} {k : PUnit → Prog (TpuEff nD τ sig (Elt F) Λ₀ .tc) α} :
    iprop(records m K ∗ levAts L lv ∗ cred (tallyAt (barCell c) () 3) ∗ owing c (owe3 c) ∗ atPos ER (barCell c) 0 ∅ 0)
      ⊢ iprop(((owing c (owe3 c) ∗ semVal (barCell c) 0 ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS u) k) Q) := by
  subst hu
  unfold owing
  iintro ⟨#HR, #Hlev, Hc, ⟨%W, HO⟩, Hat⟩ Hk
  iapply (Rounds.wp_wait_rest_token 𝒱₀ ER (sched m) (c : Thread nD τ) none (κ := K (c, 0))
      (wpE_semWait_eq 𝒱₀ (c : Thread nD τ) none Set.univ) (Set.mem_univ _) () (O := owe3 c) (W := W) (R := 0) (m := 0) (T := ∅)
      (by rw [expect_bar])) $$ [Hc HO Hat]
  · isplitr; · iapply (inv_of m K (c, 0)); iexact HR
    isplitl [Hc]; · iexact Hc
    isplitl [HO]; · iexact HO
    isplitr; · iapply (mayWait_low (F := F) c (.reg barS) (le_refl _)); iexact Hlev
    iexact Hat
  iintro ⟨HO, Hat, -, Hp⟩
  ihave Hp' := (Entails.of_eq (rest_bar m c)) $$ Hp
  imod (Rounds.cell_close ER (sched m) (Set.mem_univ (K (c, 0))) (fun h => h) (R := 0 + 1) (duties_later m (barCell c))) $$ [Hat] with Hz
  · isplitr; · iapply (inv_of m K (c, 0)); iexact HR
    iexact Hat
  iapply Hk
  isplitl [HO]; · iexists (insert (SemLoc.reg barS, ()) W); iexact HO
  isplitl [Hz]; · iexact Hz
  iexact Hp'

/-- The wait on one of a device's DMA cells brings the transfer's payload; the cell is closed. -/
theorem wp_collect (c : Dev nD) (i : Fin 11) (q : DmaSem sig) (hi : csem i = .dma q) (O : CellTallies nD τ sig Unit)
    (hO : (levAts L lv : sProp 𝕄) ⊢ MayWait (c : Thread nD τ) (.dma q) () O)
    {sp sp' : Space} {s s' : Shape} {e e' : EltTy} {src : Memref sig .tc sp' s' e'} {dst : Memref sig .tc sp s e}
    {hsrc : src.view.WordExact} {hdst : dst.view.WordExact} (hN : dst.view.dmaCredit = dmaAmt q.val)
    {α : Type} {Q : α → sProp 𝕄} {k : PUnit → Prog (TpuEff nD τ sig (Elt F) Λ₀ .tc) α} :
    iprop(records m K ∗ levAts L lv ∗ cred (tallyAt (dmaCell c q) () (dmaAmt q.val)) ∗ owing c O ∗ atPos ER (dmaCell c q) 0 ∅ 0)
      ⊢ iprop(((owing c O ∗ semVal (dmaCell c q) 0 ∗ dmaPay m c q.val)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  have hinv : records m K ⊢ (cellInv ER (sched m) (K (c, i)) (dmaCell c q) : sProp 𝕄) := by
    have h := inv_of m K (c, i); rw [show kcell (c, i) = dmaCell c q from congrArg (Prod.mk _) hi] at h; exact h
  unfold owing
  iintro ⟨#HR, #Hlev, Hc, ⟨%W, HO⟩, Hat⟩ Hk
  iapply (Rounds.wp_wait_rest_token 𝒱₀ ER (sched m) (c : Thread nD τ) none (κ := K (c, i)) (k' := dmaAmt q.val)
      (fun K' => by rw [← hN]; exact wpE_waitDma2_eq 𝒱₀ (c : Thread nD τ) none Set.univ K') (Set.mem_univ _) () (O := O) (W := W) (R := 0) (m := 0) (T := ∅)
      (by rw [expect_dma, Nat.zero_add])) $$ [Hc HO Hat]
  · isplitr; · iapply hinv; iexact HR
    isplitl [Hc]; · iexact Hc
    isplitl [HO]; · iexact HO
    isplitr; · iapply hO; iexact Hlev
    iexact Hat
  iintro ⟨HO, Hat, -, Hp⟩
  ihave Hp' := (Entails.of_eq (rest_dma m c q)) $$ Hp
  imod (Rounds.cell_close ER (sched m) (Set.mem_univ (K (c, i))) (fun h => h) (R := 0 + 1) (duties_later m (dmaCell c q))) $$ [Hat] with Hz
  · isplitr; · iapply hinv; iexact HR
    iexact Hat
  iapply Hk
  isplitl [HO]; · iexists (insert (SemLoc.dma q, ()) W); iexact HO
  isplitl [Hz]; · iexact Hz
  iexact Hp'

/-- A local copy pays its cell with the source unchanged and the destination rewritten. -/
theorem wp_fetch (c : Dev nD) (i : Fin 11) (q : DmaSem sig) (hi : csem i = .dma q)
    {sp sp' : Space} {s : Shape} {e : EltTy} {src : Memref sig .tc sp s e} {dst : Memref sig .tc sp' s e}
    {hsrc : src.view.WordExact} {hdst : dst.view.WordExact} {hsem : DmaTarget.Typed (nD := nD) sp (.dma q) (DmaTarget.here (p := (.tc : Proc τ)) dst)}
    (fs : Buf (Elt F) (src.view.loc (c : Thread nD τ))) (fd : Buf (Elt F) (dst.view.loc (c : Thread nD τ)))
    (hN : dst.view.dmaCredit = dmaAmt q.val)
    (hpay : iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ (dmaPay m c q.val : sProp 𝕄))
    {α : Type} {Q : α → sProp 𝕄} {k : PUnit → Prog (TpuEff nD τ sig (Elt F) Λ₀ .tc) α} :
    iprop(records m K ∗ (src.view.loc (c : Thread nD τ) ↦[src.view.set]{fullShare} fs) ∗ (dst.view.loc (c : Thread nD τ) ↦[dst.view.set]{fullShare} fd)
        ∗ dutyTok ER (dmaCell c q) 0 0)
      ⊢ iprop((cred (tallyAt (dmaCell c q) () (dmaAmt q.val)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma q) hsrc hdst hsem) k) Q) := by
  have hinv : records m K ⊢ (cellInv ER (sched m) (K (c, i)) (dmaCell c q) : sProp 𝕄) := by
    have h := inv_of m K (c, i); rw [show kcell (c, i) = dmaCell c q from congrArg (Prod.mk _) hi] at h; exact h
  have hopen : records m K ⊢ (reached ER (dmaCell c q) 0 : sProp 𝕄) := by
    have h := open_of m K (c, i); rw [show kcell (c, i) = dmaCell c q from congrArg (Prod.mk _) hi] at h; exact h
  iintro ⟨#HR, Hs, Hd, Ht⟩ Hk
  iapply (Rounds.wp_copy_pointsTo 𝒱₀ ER (sched m) (c : Thread nD τ) none (κ := K (c, i)) (r := 0) (d := 0) (fs := fs) (fd := fd)
      (mem_dma m c q) () (dmaAmt q.val) hN (amount_dma m c q 0) hpay) $$ [Hs Hd Ht]
  · isplitr; · iapply hinv; iexact HR
    isplitl [Hs]; · iexact Hs
    isplitl [Hd]; · iexact Hd
    isplitl [Ht]; · iexact Ht
    iapply hopen; iexact HR
  iexact Hk

/-- A slot of device `d` rewritten with the send buffer's contents holds them. -/
theorem landed_owns (c d : Dev nD) (M : Memref sig .tc .vmem S256x256 .bf16) (fd : Buf (Elt F) (M.view.loc (d : Thread nD τ))) :
    (M.view.loc (d : Thread nD τ) ↦[M.view.set]{fullShare} (M.view.write (Elt F) fd (sM.view.read (Elt F) (sent m c)) Finset.univ) : sProp 𝕄)
      ⊢ owns (c := (d : Thread nD τ)) M fullShare (sent m c) := by
  unfold owns
  iintro H
  iexists (M.view.write (Elt F) fd (sM.view.read (Elt F) (sent m c)) Finset.univ)
  isplitr
  · ipureintro
    rw [View.read_write_univ]
    exact View.read_whole _ _
  · iexact H

/-- A transfer of the send buffer into a slot of device `d`: it pays the sender's send cell with the share it read and the
    receiver's receive cell with the slot holding what was sent. -/
theorem wp_spread (c n d : Dev nD) (hn : n = d) (i i' : Fin 11) (qs qr : DmaSem sig) (hi : csem i = .dma qs) (hi' : csem i' = .dma qr)
    (o : ℕ) (h : ∀ a, (![o, 0, 0] : Fin 3 → ℕ) a + S1x256x256.size a ≤ S3x256x256.size a) (q : PosShare TreeShare)
    (hN : (slot o h).view.dmaCredit = N) (hs : dmaAmt qs.val = N) (hr : dmaAmt qr.val = N)
    (hps : (sendShare m c q : sProp 𝕄) ⊢ dmaPay m c qs.val)
    (hpr : (owns (c := (d : Thread nD τ)) (slot o h) fullShare (sent m c) : sProp 𝕄) ⊢ dmaPay m d qr.val)
    (O : CellTallies nD τ sig Unit)
    {hsc : (slot o h : Memref sig (Dev.tc n : Thread nD τ).2.kind .vmem S256x256 .bf16).view.ref.isScScratch = false}
    {hsrc : sM.view.WordExact} {hdst : (slot o h).view.WordExact}
    {hsem : DmaTarget.Typed .vmem (.dma qr) (.remote (Dev.tc n : Thread nD τ) (slot o h) (.dma qs) hsc)}
    {α : Type} {Q : α → sProp 𝕄} {k : PUnit → Prog (TpuEff nD τ sig (Elt F) Λ₀ .tc) α} :
    iprop(records m K ∗ sendShare m c q ∗ slotAny d (slot o h) ∗ owing c (O + tallyAt (dmaCell d qr) () N)
        ∗ dutyTok ER (dmaCell c qs) 0 0 ∗ dutyTok ER (dmaCell d qr) 0 0)
      ⊢ iprop(((cred (tallyAt (dmaCell c qs) () N) ∗ owing c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) (slot o h) (.dma qs) hsc) (.dma qr) hsrc hdst hsem) k) Q) := by
  subst hn
  have hinv (c : Dev nD) (i : Fin 11) (q : DmaSem sig) (hi : csem i = .dma q) : records m K ⊢ (cellInv ER (sched m) (K (c, i)) (dmaCell c q) : sProp 𝕄) := by
    have h := inv_of m K (c, i); rw [show kcell (c, i) = dmaCell c q from congrArg (Prod.mk _) hi] at h; exact h
  have hopen (c : Dev nD) (i : Fin 11) (q : DmaSem sig) (hi : csem i = .dma q) : records m K ⊢ (reached ER (dmaCell c q) 0 : sProp 𝕄) := by
    have h := open_of m K (c, i); rw [show kcell (c, i) = dmaCell c q from congrArg (Prod.mk _) hi] at h; exact h
  unfold owing slotAny
  iintro ⟨#HR, Hs, ⟨%fd, Hd⟩, ⟨%W, HO⟩, Hts, Htr⟩ Hk
  unfold sendShare at hps ⊢
  have hp := (landed_owns m c n (slot o h) fd).trans hpr
  have e₁ : (sched m).amount ((c : Thread nD τ), .dma qs) 0 0 = N := (amount_dma m c qs 0).trans hs
  have e₂ : (sched m).amount ((n : Thread nD τ), .dma qr) 0 0 = N := (amount_dma m n qr 0).trans hr
  iapply (Rounds.wp_send_pointsTo (hsrc := hsrc) (hdst := hdst) (hsem := hsem) 𝒱₀ ER (sched m) (c : Thread nD τ) none
      (c' := (n : Thread nD τ)) (κ₁ := K (c, i)) (κ₂ := K (n, i')) (r₁ := 0) (r₂ := 0) (d₁ := 0) (d₂ := 0)
      (fs := sent m c) (fd := fd) (q := q) (src := sM) (dst := slot o h) (sem := .dma qr) (sS := .dma qs) (Es := Set.univ)
      (mem_dma m c qs) (mem_dma m n qr) () () N hN e₁ e₂ O rfl (W := W) hps hp) $$ [Hs Hd HO Hts Htr]
  · isplitr; · iapply (hinv c i qs hi); iexact HR
    isplitr; · iapply (hinv n i' qr hi'); iexact HR
    isplitl [Hs]; · iexact Hs
    isplitl [Hd]; · iexact Hd
    isplitl [HO]; · iexact HO
    isplitl [Hts]; · iexact Hts
    isplitr; · iapply (hopen c i qs hi); iexact HR
    isplitl [Htr]; · iexact Htr
    iapply (hopen n i' qr hi'); iexact HR
  iintro ⟨Hc, HO⟩
  iapply Hk
  isplitl [Hc]; · iexact Hc
  iexists W; iexact HO

/-- A slot holding `X` is loaded as `X`'s plane. -/
theorem wp_take (c : Dev nD) (o : ℕ) (h : ∀ a, (![o, 0, 0] : Fin 3 → ℕ) a + S1x256x256.size a ≤ S3x256x256.size a)
    (X : Vec F S256x256 .bf16) {hl : cM.view.LoadsAt (slotRect o h).toLoadRect}
    {α : Type} {Q : α → sProp 𝕄} {k : Vec F S1x256x256 .bf16 → Prog (TpuEff nD τ sig (Elt F) Λ₀ .tc) α} :
    (owns (c := (c : Thread nD τ)) (slot o h) fullShare X : sProp 𝕄)
      ⊢ iprop((owns (c := (c : Thread nD τ)) (slot o h) fullShare X
            -∗ wp frame (wpE (defs₀ (F := F)) 𝒱₀ (c : Thread nD τ) none) Set.univ (k (plane X)) Q)
          -∗ wp frame (wpE (defs₀ (F := F)) 𝒱₀ (c : Thread nD τ) none) Set.univ (.op (.load cM (slotRect o h).toLoadRect hl) k) Q) := by
  unfold owns
  iintro ⟨%f, %hf, H⟩ Hk
  have hv : cM.view.readAt (Elt F) (slotRect o h).toLoadRect f = plane X := by
    rw [← hf]; exact (plane_down _).symm
  iapply (wp_load 𝒱₀ (c : Thread nD τ) none Set.univ (m := cM) (r := (slotRect o h).toLoadRect) (S := (slot o h).view.set) (f := f)
    (by rw [View.set_reshape, View.set_slice]; exact subset_rfl)) $$ H
  iintro H
  rw [hv]
  iapply Hk
  iexists f
  isplitr; · ipureintro; exact hf
  iexact H

end Steps

end Cert.Mlp

end
-- ==== Proof.Slots.lean ====
/-
Splitting and joining buffers: the landing buffer is its three slots; the send buffer is lent in three shares, one to each
transfer.
-/
module

public import proofs.«01_k».proof.Proof.Schedule
public import Idealize.ShloMosaic.Lib.Ring

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.ShloMosaic.Ring
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## The landing buffer -/

theorem slot_inb (b : Fin 3) : ∀ a, (![b.val, 0, 0] : Fin 3 → ℕ) a + S1x256x256.size a ≤ S3x256x256.size a := by
  revert b; decide

/-- Slot `o` is the elements whose first coordinate is `o`. -/
theorem mem_slot {o : ℕ} {h} {i : S3x256x256.Idx} : i ∈ (slot o h).view.set ↔ (i 0).val = o := by
  rw [View.set_reshape, View.set_slice_whole, Rect.mem_set_unit]
  constructor
  · intro H
    have h0 := H 0
    change o ≤ (i 0).val ∧ (i 0).val < o + 1 at h0
    omega
  · intro H a
    match a with
    | ⟨0, _⟩ => exact ⟨H.ge, Nat.lt_succ_of_le H.le⟩
    | ⟨1, _⟩ => exact ⟨Nat.zero_le _, by have := (i 1).isLt; exact (Nat.zero_add 256).symm ▸ this⟩
    | ⟨2, _⟩ => exact ⟨Nat.zero_le _, by have := (i 2).isLt; exact (Nat.zero_add 256).symm ▸ this⟩

/-- The elements of the three slots. -/
abbrev slotSet (b : Fin 3) : Finset S3x256x256.Idx := (slot b.val (slot_inb b)).view.set

theorem slot_disjoint (b b' : Fin 3) (h : b ≠ b') : Disjoint (slotSet b) (slotSet b') :=
  Finset.disjoint_left.mpr fun i hi hi' => h (Fin.ext ((mem_slot.mp hi).symm.trans (mem_slot.mp hi')))
theorem slot_cover : Finset.univ.biUnion slotSet = Finset.univ :=
  Finset.eq_univ_iff_forall.mpr fun i =>
    Finset.mem_biUnion.mpr ⟨⟨(i 0).val, (i 0).isLt⟩, Finset.mem_univ _, mem_slot.mpr rfl⟩

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

omit [FloatOps F] in
/-- The landing buffer at some contents is its three slots at some contents, -/
theorem slots_split (c : Dev nD) (f : Buf (Elt F) ((c : Thread nD τ).loc cc0_scratch5)) :
    (((c : Thread nD τ).loc cc0_scratch5) ↦{fullShare} f : sProp 𝕄) ⊢ iprop(slotAny c slot0 ∗ slotAny c slot1 ∗ slotAny c slot2) := by
  rw [pointsTo_blocks (ℓ := (c : Thread nD τ).loc cc0_scratch5) slotSet slot_disjoint slot_cover f, bigSep_three]
  unfold slotAny
  iintro ⟨H0, H1, H2⟩
  isplitl [H0]; · iexists f; iexact H0
  isplitl [H1]; · iexists f; iexact H1
  iexists f; iexact H2

omit [FloatOps F] in
/-- and back, whatever the slots hold. -/
theorem slots_join (c : Dev nD) (X0 X1 X2 : Vec F S256x256 .bf16) :
    iprop(owns (c := (c : Thread nD τ)) slot0 fullShare X0 ∗ owns (c := (c : Thread nD τ)) slot1 fullShare X1
        ∗ owns (c := (c : Thread nD τ)) slot2 fullShare X2)
      ⊢ (iprop(∃ f : Buf (Elt F) ((c : Thread nD τ).loc cc0_scratch5), ((c : Thread nD τ).loc cc0_scratch5) ↦{fullShare} f) : sProp 𝕄) := by
  unfold owns
  iintro ⟨⟨%f0, -, H0⟩, ⟨%f1, -, H1⟩, ⟨%f2, -, H2⟩⟩
  have hj := pointsTo_blocks_join_exists (Ix := Unit) (Name := ℕ) (U := UU) (Lvl := ℕ) (Val := Elt F) (ℓ := (c : Thread nD τ).loc cc0_scratch5) slotSet slot_disjoint slot_cover (q := fullShare) f0
  rw [bigSep_three] at hj
  iapply hj
  isplitl [H0]; · iexists f0; iexact H0
  isplitl [H1]; · iexists f1; iexact H1
  iexists f2; iexact H2

/-! ## The send buffer -/

theorem send_whole (c : Dev nD) : (buf c cc0_scratch4 (sent m c) : sProp 𝕄) = sendShare m c fullShare := by
  unfold sendShare; rw [View.set_whole]

/-- The send buffer is lent to the three transfers, -/
theorem send_split (c : Dev nD) : (buf c cc0_scratch4 (sent m c) : sProp 𝕄)
    ⊢ iprop(sendShare m c fullShare.left ∗ sendShare m c fullShare.right.left ∗ sendShare m c fullShare.right.right) := by
  rw [send_whole]
  unfold sendShare
  exact (pointsTo_share (PosShare.mem_left_op_right fullShare)).1.trans
    (sep_mono_right (pointsTo_share (PosShare.mem_left_op_right fullShare.right)).1)
/-- and comes back from them. -/
theorem send_join (c : Dev nD) :
    iprop(sendShare m c fullShare.left ∗ sendShare m c fullShare.right.left ∗ sendShare m c fullShare.right.right)
      ⊢ (buf c cc0_scratch4 (sent m c) : sProp 𝕄) := by
  rw [send_whole]
  unfold sendShare
  exact (sep_mono_right (pointsTo_share (PosShare.mem_left_op_right fullShare.right)).2).trans
    (pointsTo_share (PosShare.mem_left_op_right fullShare)).2

end Cert.Mlp

end
-- ==== Proof.Body.lean ====
/-
One device's kernel, run from its arguments, its scratch buffers and its part of the protocol: it ends with the arguments
unchanged, the result array at `outAt`, and every semaphore back at zero.
-/
module

public import proofs.«01_k».proof.Proof.Steps
public import proofs.«01_k».proof.Proof.Slots

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device starts and ends with -/

/-- Its position at each of its own cells: round 0, nothing collected. -/
def stand (c : Dev nD) : sProp 𝕄 :=
  iprop(atPos ER (barCell c) 0 ∅ 0
    ∗ atPos ER (dmaCell c in0) 0 ∅ 0 ∗ atPos ER (dmaCell c in1) 0 ∅ 0 ∗ atPos ER (dmaCell c in2) 0 ∅ 0 ∗ atPos ER (dmaCell c outS) 0 ∅ 0
    ∗ atPos ER (dmaCell c send0) 0 ∅ 0 ∗ atPos ER (dmaCell c send1) 0 ∅ 0 ∗ atPos ER (dmaCell c send2) 0 ∅ 0
    ∗ atPos ER (dmaCell c recv0) 0 ∅ 0 ∗ atPos ER (dmaCell c recv1) 0 ∅ 0 ∗ atPos ER (dmaCell c recv2) 0 ∅ 0)

/-- The duties it pays: one at each other device's barrier cell, one at each of its own copy and send cells, one at a receive
    cell of each other device. -/
def dues (c : Dev nD) : sProp 𝕄 :=
  iprop(dutyTok ER (barCell (hop1 c)) 0 0 ∗ dutyTok ER (barCell (hop2 c)) 0 1 ∗ dutyTok ER (barCell (hop3 c)) 0 2
    ∗ dutyTok ER (dmaCell c in0) 0 0 ∗ dutyTok ER (dmaCell c in1) 0 0 ∗ dutyTok ER (dmaCell c in2) 0 0 ∗ dutyTok ER (dmaCell c outS) 0 0
    ∗ dutyTok ER (dmaCell c send0) 0 0 ∗ dutyTok ER (dmaCell c send1) 0 0 ∗ dutyTok ER (dmaCell c send2) 0 0
    ∗ dutyTok ER (dmaCell (hop3 c) recv0) 0 0 ∗ dutyTok ER (dmaCell (hop2 c) recv1) 0 0 ∗ dutyTok ER (dmaCell (hop1 c) recv2) 0 0)

/-- The credit for what the other devices owe it. -/
def credits (c : Dev nD) : sProp 𝕄 :=
  iprop(cred (tallyAt (barCell c) () 3) ∗ cred (tallyAt (dmaCell c recv0) () N) ∗ cred (tallyAt (dmaCell c recv1) () N)
    ∗ cred (tallyAt (dmaCell c recv2) () N))

/-- Its arguments. -/
def arguments (c : Dev nD) : sProp 𝕄 :=
  iprop(buf c main_arg0 (xAt m c) ∗ buf c main_arg1 (uAt m c) ∗ buf c main_arg2 (vAt m c))

/-- A buffer at some contents. -/
abbrev some (c : Dev nD) (b : Ref sig .tc) : sProp 𝕄 :=
  iprop(∃ f : Buf (Elt F) ((c : Thread nD τ).loc b), ((c : Thread nD τ).loc b) ↦{fullShare} f)

/-- Its six scratch buffers. -/
def scratch (c : Dev nD) : sProp 𝕄 :=
  iprop(some c cc0_scratch0 ∗ some c cc0_scratch1 ∗ some c cc0_scratch2 ∗ some c cc0_scratch3 ∗ some c cc0_scratch4 ∗ some c cc0_scratch5)

/-- Its ten DMA semaphores at zero. -/
def zeros (c : Dev nD) : sProp 𝕄 :=
  iprop(semVal (dmaCell c in0) 0 ∗ semVal (dmaCell c in1) 0 ∗ semVal (dmaCell c in2) 0 ∗ semVal (dmaCell c outS) 0
    ∗ semVal (dmaCell c send0) 0 ∗ semVal (dmaCell c send1) 0 ∗ semVal (dmaCell c send2) 0
    ∗ semVal (dmaCell c recv0) 0 ∗ semVal (dmaCell c recv1) 0 ∗ semVal (dmaCell c recv2) 0)

/-- What device `c` starts from, its scratch buffers apart. -/
def start (c : Dev nD) : sProp 𝕄 :=
  iprop((∃ K, records m K ∗ stand c ∗ dues c) ∗ credits c ∗ levAts L lv ∗ arguments m c ∗ some c main_v1)

/-- What it ends with, its scratch buffers and DMA semaphores apart. -/
def finish (c : Dev nD) : sProp 𝕄 :=
  iprop(arguments m c ∗ buf c main_v1 (outAt m c) ∗ semVal (barCell c) 0)

/-! ## Loads, stores and copies of whole buffers -/

omit [FloatOps F] in
/-- All the elements of a whole buffer's view are all its elements. -/
theorem whole_pts (c : Dev nD) (b : Ref sig .tc) (f : b.ty.Contents (Elt F)) :
    (((View.whole b).loc (c : Thread nD τ)) ↦[(View.whole b).set]{fullShare} f : sProp 𝕄) = buf c b f := by
  rw [View.set_whole]

theorem off_zero : (![0, 0] : Fin 2 → Nat) = fun _ => 0 := funext fun a => by fin_cases a <;> rfl

/-! The kernel reads a whole buffer by one load, and rewrites one by one store. -/

omit [FloatOps F] in
theorem read_cc0_scratch0 (f : (cc0_scratch0 : Ref sig .tc).ty.Contents (Elt F)) :
    (Memref.whole cc0_scratch0 : Memref sig .tc .vmem S256x256 .f32).view.readAt (Elt F)
      (Rect.unit (s := S256x256) ![0, 0] S256x256.size inb_S256x256_S256x256_0_0).toLoadRect f = f :=
  Memref.readAt_unit_zero (Elt F) cc0_scratch0 off_zero _ f
omit [FloatOps F] in
theorem read_cc0_scratch1 (f : (cc0_scratch1 : Ref sig .tc).ty.Contents (Elt F)) :
    (Memref.whole cc0_scratch1 : Memref sig .tc .vmem S256x512 .f32).view.readAt (Elt F)
      (Rect.unit (s := S256x512) ![0, 0] S256x512.size inb_S256x512_S256x512_0_0).toLoadRect f = f :=
  Memref.readAt_unit_zero (Elt F) cc0_scratch1 off_zero _ f
omit [FloatOps F] in
theorem read_cc0_scratch2 (f : (cc0_scratch2 : Ref sig .tc).ty.Contents (Elt F)) :
    (Memref.whole cc0_scratch2 : Memref sig .tc .vmem S512x256 .f32).view.readAt (Elt F)
      (Rect.unit (s := S512x256) ![0, 0] S512x256.size inb_S512x256_S512x256_0_0).toLoadRect f = f :=
  Memref.readAt_unit_zero (Elt F) cc0_scratch2 off_zero _ f
omit [FloatOps F] in
theorem write_cc0_scratch3 (f w : (cc0_scratch3 : Ref sig .tc).ty.Contents (Elt F)) :
    ((Memref.whole cc0_scratch3 : Memref sig .tc .vmem S256x256 .bf16).access
      (Rect.unit (s := S256x256) ![0, 0] S256x256.size inb_S256x256_S256x256_0_0) : View sig .tc _ _ _).write (Elt F) f w Finset.univ = w :=
  Memref.write_access_unit_zero_univ (Elt F) cc0_scratch3 off_zero _ f w
omit [FloatOps F] in
theorem write_cc0_scratch4 (f w : (cc0_scratch4 : Ref sig .tc).ty.Contents (Elt F)) :
    ((Memref.whole cc0_scratch4 : Memref sig .tc .vmem S256x256 .bf16).access
      (Rect.unit (s := S256x256) ![0, 0] S256x256.size inb_S256x256_S256x256_0_0) : View sig .tc _ _ _).write (Elt F) f w Finset.univ = w :=
  Memref.write_access_unit_zero_univ (Elt F) cc0_scratch4 off_zero _ f w

/-- What the two stores leave, by name. -/
theorem stored_sent (c : Dev nD) :
    (((sM.access (Rect.unit (s := S256x256) ![0, 0] S256x256.size inb_S256x256_S256x256_0_0)).loc (c : Thread nD τ)) ↦{fullShare} (k0_pay2 (xAt m c) (uAt m c) (vAt m c) : (cc0_scratch4 : Ref sig .tc).ty.Contents (Elt F)) : sProp 𝕄)
      = buf c cc0_scratch4 (sent m c) := rfl
theorem stored_out (c : Dev nD) :
    ((((Memref.whole cc0_scratch3 : Memref sig .tc .vmem S256x256 .bf16).access (Rect.unit (s := S256x256) ![0, 0] S256x256.size inb_S256x256_S256x256_0_0)).loc (c : Thread nD τ)) ↦{fullShare}
        (k0_pay4 (k0_pay3 (k0_pay1 (xAt m c) (uAt m c) (vAt m c)) (plane (sent m (hop3 c)))) (plane (sent m (hop1 c))) (plane (sent m (hop2 c)))
          : (cc0_scratch3 : Ref sig .tc).ty.Contents (Elt F)) : sProp 𝕄)
      = buf c cc0_scratch3 (outAt m c) := rfl

/-! What the local copies hand over at their cells. -/

theorem pay_in0 (c : Dev nD) (fd : (cc0_scratch0 : Ref sig .tc).ty.Contents (Elt F)) :
    iprop((((Memref.whole cc0_scratch0 : Memref sig .tc .vmem S256x256 .f32).view.loc (c : Thread nD τ)) ↦[(Memref.whole cc0_scratch0 : Memref sig .tc .vmem S256x256 .f32).view.set]{fullShare}
          ((Memref.whole cc0_scratch0 : Memref sig .tc .vmem S256x256 .f32).view.write (Elt F) fd
            ((Memref.whole main_arg0 : Memref sig .tc .hbm S256x256 .f32).view.read (Elt F) (xAt m c)) Finset.univ))
        ∗ (((Memref.whole main_arg0 : Memref sig .tc .hbm S256x256 .f32).view.loc (c : Thread nD τ)) ↦[(Memref.whole main_arg0 : Memref sig .tc .hbm S256x256 .f32).view.set]{fullShare} (xAt m c)))
      ⊢ (dmaPay m c (in0 : DmaSem sig).val : sProp 𝕄) := by
  rw [show (Memref.whole cc0_scratch0 : Memref sig .tc .vmem S256x256 .f32).view.write (Elt F) fd
      ((Memref.whole main_arg0 : Memref sig .tc .hbm S256x256 .f32).view.read (Elt F) (xAt m c)) Finset.univ = xAt m c from
    (View.write_whole_univ _ _ _).trans (View.read_whole _ _)]
  exact Entails.of_eq (congrArg₂ BI.BIBase.sep (whole_pts c cc0_scratch0 (xAt m c)) (whole_pts c main_arg0 (xAt m c)))
theorem pay_in1 (c : Dev nD) (fd : (cc0_scratch1 : Ref sig .tc).ty.Contents (Elt F)) :
    iprop((((Memref.whole cc0_scratch1 : Memref sig .tc .vmem S256x512 .f32).view.loc (c : Thread nD τ)) ↦[(Memref.whole cc0_scratch1 : Memref sig .tc .vmem S256x512 .f32).view.set]{fullShare}
          ((Memref.whole cc0_scratch1 : Memref sig .tc .vmem S256x512 .f32).view.write (Elt F) fd
            ((Memref.whole main_arg1 : Memref sig .tc .hbm S256x512 .f32).view.read (Elt F) (uAt m c)) Finset.univ))
        ∗ (((Memref.whole main_arg1 : Memref sig .tc .hbm S256x512 .f32).view.loc (c : Thread nD τ)) ↦[(Memref.whole main_arg1 : Memref sig .tc .hbm S256x512 .f32).view.set]{fullShare} (uAt m c)))
      ⊢ (dmaPay m c (in1 : DmaSem sig).val : sProp 𝕄) := by
  rw [show (Memref.whole cc0_scratch1 : Memref sig .tc .vmem S256x512 .f32).view.write (Elt F) fd
      ((Memref.whole main_arg1 : Memref sig .tc .hbm S256x512 .f32).view.read (Elt F) (uAt m c)) Finset.univ = uAt m c from
    (View.write_whole_univ _ _ _).trans (View.read_whole _ _)]
  exact Entails.of_eq (congrArg₂ BI.BIBase.sep (whole_pts c cc0_scratch1 (uAt m c)) (whole_pts c main_arg1 (uAt m c)))
theorem pay_in2 (c : Dev nD) (fd : (cc0_scratch2 : Ref sig .tc).ty.Contents (Elt F)) :
    iprop((((Memref.whole cc0_scratch2 : Memref sig .tc .vmem S512x256 .f32).view.loc (c : Thread nD τ)) ↦[(Memref.whole cc0_scratch2 : Memref sig .tc .vmem S512x256 .f32).view.set]{fullShare}
          ((Memref.whole cc0_scratch2 : Memref sig .tc .vmem S512x256 .f32).view.write (Elt F) fd
            ((Memref.whole main_arg2 : Memref sig .tc .hbm S512x256 .f32).view.read (Elt F) (vAt m c)) Finset.univ))
        ∗ (((Memref.whole main_arg2 : Memref sig .tc .hbm S512x256 .f32).view.loc (c : Thread nD τ)) ↦[(Memref.whole main_arg2 : Memref sig .tc .hbm S512x256 .f32).view.set]{fullShare} (vAt m c)))
      ⊢ (dmaPay m c (in2 : DmaSem sig).val : sProp 𝕄) := by
  rw [show (Memref.whole cc0_scratch2 : Memref sig .tc .vmem S512x256 .f32).view.write (Elt F) fd
      ((Memref.whole main_arg2 : Memref sig .tc .hbm S512x256 .f32).view.read (Elt F) (vAt m c)) Finset.univ = vAt m c from
    (View.write_whole_univ _ _ _).trans (View.read_whole _ _)]
  exact Entails.of_eq (congrArg₂ BI.BIBase.sep (whole_pts c cc0_scratch2 (vAt m c)) (whole_pts c main_arg2 (vAt m c)))
theorem pay_out (c : Dev nD) (fd : (main_v1 : Ref sig .tc).ty.Contents (Elt F)) :
    iprop((((Memref.whole main_v1 : Memref sig .tc .hbm S256x256 .bf16).view.loc (c : Thread nD τ)) ↦[(Memref.whole main_v1 : Memref sig .tc .hbm S256x256 .bf16).view.set]{fullShare}
          ((Memref.whole main_v1 : Memref sig .tc .hbm S256x256 .bf16).view.write (Elt F) fd
            ((Memref.whole cc0_scratch3 : Memref sig .tc .vmem S256x256 .bf16).view.read (Elt F) (outAt m c)) Finset.univ))
        ∗ (((Memref.whole cc0_scratch3 : Memref sig .tc .vmem S256x256 .bf16).view.loc (c : Thread nD τ)) ↦[(Memref.whole cc0_scratch3 : Memref sig .tc .vmem S256x256 .bf16).view.set]{fullShare} (outAt m c)))
      ⊢ (dmaPay m c (outS : DmaSem sig).val : sProp 𝕄) := by
  rw [show (Memref.whole main_v1 : Memref sig .tc .hbm S256x256 .bf16).view.write (Elt F) fd
      ((Memref.whole cc0_scratch3 : Memref sig .tc .vmem S256x256 .bf16).view.read (Elt F) (outAt m c)) Finset.univ = outAt m c from
    (View.write_whole_univ _ _ _).trans (View.read_whole _ _)]
  exact Entails.of_eq (congrArg₂ BI.BIBase.sep (whole_pts c main_v1 (outAt m c)) (whole_pts c cc0_scratch3 (outAt m c)))

/-! What each DMA cell hands over, by name. -/

theorem due_in0 (c : Dev nD) : (dmaPay m c (in0 : DmaSem sig).val : sProp 𝕄) = iprop(buf c cc0_scratch0 (xAt m c) ∗ buf c main_arg0 (xAt m c)) := rfl
theorem due_in1 (c : Dev nD) : (dmaPay m c (in1 : DmaSem sig).val : sProp 𝕄) = iprop(buf c cc0_scratch1 (uAt m c) ∗ buf c main_arg1 (uAt m c)) := rfl
theorem due_in2 (c : Dev nD) : (dmaPay m c (in2 : DmaSem sig).val : sProp 𝕄) = iprop(buf c cc0_scratch2 (vAt m c) ∗ buf c main_arg2 (vAt m c)) := rfl
theorem due_outS (c : Dev nD) : (dmaPay m c (outS : DmaSem sig).val : sProp 𝕄) = iprop(buf c main_v1 (outAt m c) ∗ buf c cc0_scratch3 (outAt m c)) := rfl
theorem due_send0 (c : Dev nD) : (dmaPay m c (send0 : DmaSem sig).val : sProp 𝕄) = sendShare m c fullShare.left := rfl
theorem due_send1 (c : Dev nD) : (dmaPay m c (send1 : DmaSem sig).val : sProp 𝕄) = sendShare m c fullShare.right.left := rfl
theorem due_send2 (c : Dev nD) : (dmaPay m c (send2 : DmaSem sig).val : sProp 𝕄) = sendShare m c fullShare.right.right := rfl
theorem due_recv0 (c : Dev nD) : (dmaPay m c (recv0 : DmaSem sig).val : sProp 𝕄) = owns (c : Thread nD τ) slot0 fullShare (sent m (hop1 c)) := rfl
theorem due_recv1 (c : Dev nD) : (dmaPay m c (recv1 : DmaSem sig).val : sProp 𝕄) = owns (c : Thread nD τ) slot1 fullShare (sent m (hop2 c)) := rfl
theorem due_recv2 (c : Dev nD) : (dmaPay m c (recv2 : DmaSem sig).val : sProp 𝕄) = owns (c : Thread nD τ) slot2 fullShare (sent m (hop3 c)) := rfl

/-! And each duty of the barrier. -/

omit [FloatOps F] in
theorem due_bar0 (c : Dev nD) : (barPay c 0 : sProp 𝕄) = iprop(slotAny (hop3 c) slot0 ∗ reached ER (dmaCell (hop3 c) recv0) 0) := rfl
omit [FloatOps F] in
theorem due_bar1 (c : Dev nD) : (barPay c 1 : sProp 𝕄) = iprop(slotAny (hop2 c) slot1 ∗ reached ER (dmaCell (hop2 c) recv1) 0) := rfl
omit [FloatOps F] in
theorem due_bar2 (c : Dev nD) : (barPay c 2 : sProp 𝕄) = iprop(slotAny (hop1 c) slot2 ∗ reached ER (dmaCell (hop1 c) recv2) 0) := rfl

section Body

variable (K : Dev nD × Fin 11 → ℕ)

set_option maxHeartbeats 4000000 in
/-- The kernel on device `c`. -/
theorem sound_body (c : Dev nD) (Q : PUnit → sProp 𝕄) :
    iprop((records m K ∗ stand c ∗ dues c ∗ credits c ∗ levAts L lv ∗ arguments m c ∗ some c main_v1 ∗ scratch c ∗ owing c (owe6 c))
        ∗ ((finish m c ∗ scratch c ∗ zeros c ∗ owing c 0) -∗ Q ⟨⟩))
      ⊢ wp frame (wpE (defs₀ (F := F)) 𝒱₀ c none) Set.univ
          (cc0_body (Memref.whole main_arg0) (Memref.isWhole_whole _) (Memref.whole main_arg1) (Memref.isWhole_whole _)
    (Memref.whole main_arg2) (Memref.isWhole_whole _) (Memref.whole main_v1) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) cc0_scratch6 cc0_scratch7 cc0_scratch8 cc0_scratch9) Q := by
  rw [cc0_body_eq_skeleton]
  unfold cc0_body_skel
  rw [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold stand dues credits arguments scratch
  iintro ⟨⟨#HR, ⟨Ha_bar, Ha_in0, Ha_in1, Ha_in2, Ha_outS, Ha_send0, Ha_send1, Ha_send2, Ha_recv0, Ha_recv1, Ha_recv2⟩, ⟨Ht_b1, Ht_b2, Ht_b3, Ht_in0, Ht_in1, Ht_in2, Ht_outS, Ht_send0, Ht_send1, Ht_send2, Ht_recv0, Ht_recv1, Ht_recv2⟩,
    ⟨Hc_bar, Hc_recv0, Hc_recv1, Hc_recv2⟩, #Hlev, ⟨Hx, Hu, Hv⟩, ⟨%fo, Hy⟩,
    ⟨⟨%f0, Hs0⟩, ⟨%f1, Hs1⟩, ⟨%f2, Hs2⟩, ⟨%f3, Hs3⟩, ⟨%f4, Hs4⟩, ⟨%f5, Hs5⟩⟩, HO⟩, Hk⟩
  ihave Hl := (slots_split c f5) $$ Hs5
  icases Hl with ⟨Hl0, Hl1, Hl2⟩
  -- the three signals, each with the slot its receiver will write
  iapply (wp_notify m K c _ (hop1 c) (dev1_eq c) 0 _ (by decide) (owe5 c)) $$ [HO Ht_b1 Hl0]
  · isplitr; · iexact HR
    isplitl [HO]; · iexact HO
    isplitl [Ht_b1]; · iexact Ht_b1
    unfold barPay; rw [hop3_hop1]
    isplitl [Hl0]; · iexact Hl0
    iapply (open_of m K (c, 8)); iexact HR
  iintro HO
  iapply (wp_notify m K c _ (hop2 c) (dev2_eq c) 1 _ (by decide) (owe4 c)) $$ [HO Ht_b2 Hl1]
  · isplitr; · iexact HR
    isplitl [HO]; · iexact HO
    isplitl [Ht_b2]; · iexact Ht_b2
    unfold barPay; rw [hop2_hop2]
    isplitl [Hl1]; · iexact Hl1
    iapply (open_of m K (c, 9)); iexact HR
  iintro HO
  iapply (wp_notify m K c _ (hop3 c) (dev3_eq c) 2 _ (by decide) (owe3 c)) $$ [HO Ht_b3 Hl2]
  · isplitr; · iexact HR
    isplitl [HO]; · iexact HO
    isplitl [Ht_b3]; · iexact Ht_b3
    unfold barPay; rw [hop1_hop3]
    isplitl [Hl2]; · iexact Hl2
    iapply (open_of m K (c, 10)); iexact HR
  iintro HO
  -- the arguments are brought into VMEM
  iapply (wp_fetch m K c 1 in0 rfl (src := Memref.whole main_arg0) (dst := Memref.whole cc0_scratch0) (xAt m c) f0 rfl (pay_in0 m c f0)) $$ [Hx Hs0 Ht_in0]
  · isplitr; · iexact HR
    isplitl [Hx]; · iapply (Entails.of_eq (whole_pts c main_arg0 (xAt m c)).symm); iexact Hx
    isplitl [Hs0]; · iapply (Entails.of_eq (whole_pts c cc0_scratch0 f0).symm); iexact Hs0
    iexact Ht_in0
  iintro Hc_in0
  iapply (wp_fetch m K c 2 in1 rfl (src := Memref.whole main_arg1) (dst := Memref.whole cc0_scratch1) (uAt m c) f1 rfl (pay_in1 m c f1)) $$ [Hu Hs1 Ht_in1]
  · isplitr; · iexact HR
    isplitl [Hu]; · iapply (Entails.of_eq (whole_pts c main_arg1 (uAt m c)).symm); iexact Hu
    isplitl [Hs1]; · iapply (Entails.of_eq (whole_pts c cc0_scratch1 f1).symm); iexact Hs1
    iexact Ht_in1
  iintro Hc_in1
  iapply (wp_fetch m K c 3 in2 rfl (src := Memref.whole main_arg2) (dst := Memref.whole cc0_scratch2) (vAt m c) f2 rfl (pay_in2 m c f2)) $$ [Hv Hs2 Ht_in2]
  · isplitr; · iexact HR
    isplitl [Hv]; · iapply (Entails.of_eq (whole_pts c main_arg2 (vAt m c)).symm); iexact Hv
    isplitl [Hs2]; · iapply (Entails.of_eq (whole_pts c cc0_scratch2 f2).symm); iexact Hs2
    iexact Ht_in2
  iintro Hc_in2
  iapply (wp_collect m K c 1 in0 rfl (owe3 c) (dst := Memref.whole cc0_scratch0) (mayWait_low (F := F) c (.dma in0) (Nat.zero_le 1)) rfl) $$ [Hc_in0 HO Ha_in0]
  · isplitr; · iexact HR
    isplitr; · iexact Hlev
    isplitl [Hc_in0]; · iexact Hc_in0
    isplitl [HO]; · iexact HO
    iexact Ha_in0
  iintro ⟨HO, Hz_in0, Hp⟩
  ihave Hp := (Entails.of_eq (due_in0 m c)) $$ Hp
  icases Hp with ⟨Hs0, Hx⟩
  iapply (wp_collect m K c 2 in1 rfl (owe3 c) (dst := Memref.whole cc0_scratch1) (mayWait_low (F := F) c (.dma in1) (Nat.zero_le 1)) rfl) $$ [Hc_in1 HO Ha_in1]
  · isplitr; · iexact HR
    isplitr; · iexact Hlev
    isplitl [Hc_in1]; · iexact Hc_in1
    isplitl [HO]; · iexact HO
    iexact Ha_in1
  iintro ⟨HO, Hz_in1, Hp⟩
  ihave Hp := (Entails.of_eq (due_in1 m c)) $$ Hp
  icases Hp with ⟨Hs1, Hu⟩
  -- the partial product, rounded into the send buffer
  iapply (wp_load 𝒱₀ (c : Thread nD τ) none Set.univ (m := Memref.whole cc0_scratch0) (f := xAt m c) (Finset.subset_univ _)) $$ Hs0; iintro Hs0
  rw [read_cc0_scratch0]
  iapply (wp_load 𝒱₀ (c : Thread nD τ) none Set.univ (m := Memref.whole cc0_scratch1) (f := uAt m c) (Finset.subset_univ _)) $$ Hs1; iintro Hs1
  rw [read_cc0_scratch1]
  iapply (wp_collect m K c 3 in2 rfl (owe3 c) (dst := Memref.whole cc0_scratch2) (mayWait_low (F := F) c (.dma in2) (Nat.zero_le 1)) rfl) $$ [Hc_in2 HO Ha_in2]
  · isplitr; · iexact HR
    isplitr; · iexact Hlev
    isplitl [Hc_in2]; · iexact Hc_in2
    isplitl [HO]; · iexact HO
    iexact Ha_in2
  iintro ⟨HO, Hz_in2, Hp⟩
  ihave Hp := (Entails.of_eq (due_in2 m c)) $$ Hp
  icases Hp with ⟨Hs2, Hv⟩
  iapply (wp_load 𝒱₀ (c : Thread nD τ) none Set.univ (m := Memref.whole cc0_scratch2) (f := vAt m c) (Finset.subset_univ _)) $$ Hs2; iintro Hs2
  rw [read_cc0_scratch2]
  iapply (wp_load 𝒱₀ (c : Thread nD τ) none Set.univ (m := sM) (f := f4) (Finset.subset_univ _)) $$ Hs4; iintro Hs4
  iapply (wp_store 𝒱₀ (c : Thread nD τ) none Set.univ (m := sM) (r := Rect.unit (s := S256x256) ![0, 0] S256x256.size inb_S256x256_S256x256_0_0) (Mk := Finset.univ) (Finset.subset_univ _)) $$ Hs4; iintro Hs4
  rw [write_cc0_scratch4]
  ihave Hs4 := (Entails.of_eq (stored_sent m c)) $$ Hs4
  ihave Hsh := (send_split m c) $$ Hs4
  icases Hsh with ⟨Hq0, Hq1, Hq2⟩
  -- the barrier: the other devices' slots
  iapply (wp_gather m K c _ (by decide)) $$ [Hc_bar HO Ha_bar]
  · isplitr; · iexact HR
    isplitr; · iexact Hlev
    isplitl [Hc_bar]; · iexact Hc_bar
    isplitl [HO]; · iexact HO
    iexact Ha_bar
  iintro ⟨HO, Hz_bar, Hl0, Hl1, Hl2⟩
  ihave Hl0 := (Entails.of_eq (due_bar0 c)) $$ Hl0
  ihave Hl1 := (Entails.of_eq (due_bar1 c)) $$ Hl1
  ihave Hl2 := (Entails.of_eq (due_bar2 c)) $$ Hl2
  icases Hl0 with ⟨Hl0, -⟩
  icases Hl1 with ⟨Hl1, -⟩
  icases Hl2 with ⟨Hl2, -⟩
  -- the three transfers
  iapply (wp_spread m K c _ (hop1 c) (dev4_eq c) 5 10 send0 recv2 rfl rfl 2 inb_S3x256x256_S1x256x256_2_0_0 fullShare.left rfl rfl rfl
      (Entails.of_eq rfl) (Entails.of_eq (by rw [show sent m c = sent m (hop3 (hop1 c)) from by rw [hop3_hop1]]; rfl)) (owe2 c)) $$ [Hq0 Hl2 HO Ht_send0 Ht_recv2]
  · isplitr; · iexact HR
    isplitl [Hq0]; · iexact Hq0
    isplitl [Hl2]; · iexact Hl2
    isplitl [HO]; · iexact HO
    isplitl [Ht_send0]; · iexact Ht_send0
    iexact Ht_recv2
  iintro ⟨Hc_send0, HO⟩
  iapply (wp_spread m K c _ (hop2 c) (dev5_eq c) 6 9 send1 recv1 rfl rfl 1 inb_S3x256x256_S1x256x256_1_0_0 fullShare.right.left rfl rfl rfl
      (Entails.of_eq rfl) (Entails.of_eq (by rw [show sent m c = sent m (hop2 (hop2 c)) from by rw [hop2_hop2]]; rfl)) (owe1 c)) $$ [Hq1 Hl1 HO Ht_send1 Ht_recv1]
  · isplitr; · iexact HR
    isplitl [Hq1]; · iexact Hq1
    isplitl [Hl1]; · iexact Hl1
    isplitl [HO]; · iexact HO
    isplitl [Ht_send1]; · iexact Ht_send1
    iexact Ht_recv1
  iintro ⟨Hc_send1, HO⟩
  iapply (wp_spread m K c _ (hop3 c) (dev6_eq c) 7 8 send2 recv0 rfl rfl 0 inb_S3x256x256_S1x256x256_0_0_0 fullShare.right.right rfl rfl rfl
      (Entails.of_eq rfl) (Entails.of_eq (by rw [show sent m c = sent m (hop1 (hop3 c)) from by rw [hop1_hop3]]; rfl)) 0) $$ [Hq2 Hl0 HO Ht_send2 Ht_recv0]
  · isplitr; · iexact HR
    isplitl [Hq2]; · iexact Hq2
    isplitl [Hl0]; · iexact Hl0
    isplitl [HO]; · iexact HO
    isplitl [Ht_send2]; · iexact Ht_send2
    iexact Ht_recv0
  iintro ⟨Hc_send2, HO⟩
  -- the three received matrices
  iapply (wp_collect m K c 10 recv2 rfl 0 (dst := slot 2 inb_S3x256x256_S1x256x256_2_0_0) (mayWait_zero (F := F) c (.dma recv2)) rfl) $$ [Hc_recv2 HO Ha_recv2]
  · isplitr; · iexact HR
    isplitr; · iexact Hlev
    isplitl [Hc_recv2]; · iexact Hc_recv2
    isplitl [HO]; · iexact HO
    iexact Ha_recv2
  iintro ⟨HO, Hz_recv2, Hl2⟩
  ihave Hl2 := (Entails.of_eq (due_recv2 m c)) $$ Hl2
  iapply (wp_take c 2 inb_S3x256x256_S1x256x256_2_0_0 (sent m (hop3 c))) $$ Hl2; iintro Hl2
  iapply (wp_collect m K c 8 recv0 rfl 0 (dst := slot 0 inb_S3x256x256_S1x256x256_0_0_0) (mayWait_zero (F := F) c (.dma recv0)) rfl) $$ [Hc_recv0 HO Ha_recv0]
  · isplitr; · iexact HR
    isplitr; · iexact Hlev
    isplitl [Hc_recv0]; · iexact Hc_recv0
    isplitl [HO]; · iexact HO
    iexact Ha_recv0
  iintro ⟨HO, Hz_recv0, Hl0⟩
  ihave Hl0 := (Entails.of_eq (due_recv0 m c)) $$ Hl0
  iapply (wp_take c 0 inb_S3x256x256_S1x256x256_0_0_0 (sent m (hop1 c))) $$ Hl0; iintro Hl0
  iapply (wp_collect m K c 9 recv1 rfl 0 (dst := slot 1 inb_S3x256x256_S1x256x256_1_0_0) (mayWait_zero (F := F) c (.dma recv1)) rfl) $$ [Hc_recv1 HO Ha_recv1]
  · isplitr; · iexact HR
    isplitr; · iexact Hlev
    isplitl [Hc_recv1]; · iexact Hc_recv1
    isplitl [HO]; · iexact HO
    iexact Ha_recv1
  iintro ⟨HO, Hz_recv1, Hl1⟩
  ihave Hl1 := (Entails.of_eq (due_recv1 m c)) $$ Hl1
  iapply (wp_take c 1 inb_S3x256x256_S1x256x256_1_0_0 (sent m (hop2 c))) $$ Hl1; iintro Hl1
  -- the sum, written out
  iapply (wp_load 𝒱₀ (c : Thread nD τ) none Set.univ (m := Memref.whole cc0_scratch3) (f := f3) (Finset.subset_univ _)) $$ Hs3; iintro Hs3
  iapply (wp_store 𝒱₀ (c : Thread nD τ) none Set.univ (m := Memref.whole cc0_scratch3) (r := Rect.unit (s := S256x256) ![0, 0] S256x256.size inb_S256x256_S256x256_0_0) (Mk := Finset.univ) (Finset.subset_univ _)) $$ Hs3; iintro Hs3
  rw [write_cc0_scratch3]
  ihave Hs3 := (Entails.of_eq (stored_out m c)) $$ Hs3
  iapply (wp_fetch m K c 4 outS rfl (src := Memref.whole cc0_scratch3) (dst := Memref.whole main_v1) (outAt m c) fo rfl (pay_out m c fo)) $$ [Hs3 Hy Ht_outS]
  · isplitr; · iexact HR
    isplitl [Hs3]; · iapply (Entails.of_eq (whole_pts c cc0_scratch3 (outAt m c)).symm); iexact Hs3
    isplitl [Hy]; · iapply (Entails.of_eq (whole_pts c main_v1 fo).symm); iexact Hy
    iexact Ht_outS
  iintro Hc_outS
  iapply (wp_collect m K c 4 outS rfl 0 (dst := Memref.whole main_v1) (mayWait_zero (F := F) c (.dma outS)) rfl) $$ [Hc_outS HO Ha_outS]
  · isplitr; · iexact HR
    isplitr; · iexact Hlev
    isplitl [Hc_outS]; · iexact Hc_outS
    isplitl [HO]; · iexact HO
    iexact Ha_outS
  iintro ⟨HO, Hz_outS, Hp⟩
  ihave Hp := (Entails.of_eq (due_outS m c)) $$ Hp
  icases Hp with ⟨Hy, Hs3⟩
  -- the send buffer back
  iapply (wp_collect m K c 5 send0 rfl 0 (dst := sM) (mayWait_zero (F := F) c (.dma send0)) rfl) $$ [Hc_send0 HO Ha_send0]
  · isplitr; · iexact HR
    isplitr; · iexact Hlev
    isplitl [Hc_send0]; · iexact Hc_send0
    isplitl [HO]; · iexact HO
    iexact Ha_send0
  iintro ⟨HO, Hz_send0, Hq0⟩
  ihave Hq0 := (Entails.of_eq (due_send0 m c)) $$ Hq0
  iapply (wp_collect m K c 6 send1 rfl 0 (dst := sM) (mayWait_zero (F := F) c (.dma send1)) rfl) $$ [Hc_send1 HO Ha_send1]
  · isplitr; · iexact HR
    isplitr; · iexact Hlev
    isplitl [Hc_send1]; · iexact Hc_send1
    isplitl [HO]; · iexact HO
    iexact Ha_send1
  iintro ⟨HO, Hz_send1, Hq1⟩
  ihave Hq1 := (Entails.of_eq (due_send1 m c)) $$ Hq1
  iapply (wp_collect m K c 7 send2 rfl 0 (dst := sM) (mayWait_zero (F := F) c (.dma send2)) rfl) $$ [Hc_send2 HO Ha_send2]
  · isplitr; · iexact HR
    isplitr; · iexact Hlev
    isplitl [Hc_send2]; · iexact Hc_send2
    isplitl [HO]; · iexact HO
    iexact Ha_send2
  iintro ⟨HO, Hz_send2, Hq2⟩
  ihave Hq2 := (Entails.of_eq (due_send2 m c)) $$ Hq2
  rw [wp_ret]; imodintro
  iapply Hk
  unfold finish arguments zeros
  isplitl [Hx Hu Hv Hy Hz_bar]
  · isplitl [Hx Hu Hv]
    · isplitl [Hx]; · iexact Hx
      isplitl [Hu]; · iexact Hu
      iexact Hv
    isplitl [Hy]; · iexact Hy
    iexact Hz_bar
  isplitl [Hs0 Hs1 Hs2 Hs3 Hq0 Hq1 Hq2 Hl0 Hl1 Hl2]
  · isplitl [Hs0]; · iexists (xAt m c); iexact Hs0
    isplitl [Hs1]; · iexists (uAt m c); iexact Hs1
    isplitl [Hs2]; · iexists (vAt m c); iexact Hs2
    isplitl [Hs3]; · iexists (outAt m c); iexact Hs3
    isplitl [Hq0 Hq1 Hq2]
    · iexists (sent m c)
      iapply (send_join m c)
      isplitl [Hq0]; · iexact Hq0
      isplitl [Hq1]; · iexact Hq1
      iexact Hq2
    iapply (slots_join c (sent m (hop1 c)) (sent m (hop2 c)) (sent m (hop3 c)))
    isplitl [Hl0]; · iexact Hl0
    isplitl [Hl1]; · iexact Hl1
    iexact Hl2
  isplitl [Hz_in0 Hz_in1 Hz_in2 Hz_outS Hz_send0 Hz_send1 Hz_send2 Hz_recv0 Hz_recv1 Hz_recv2]
  · isplitl [Hz_in0]; · iexact Hz_in0
    isplitl [Hz_in1]; · iexact Hz_in1
    isplitl [Hz_in2]; · iexact Hz_in2
    isplitl [Hz_outS]; · iexact Hz_outS
    isplitl [Hz_send0]; · iexact Hz_send0
    isplitl [Hz_send1]; · iexact Hz_send1
    isplitl [Hz_send2]; · iexact Hz_send2
    isplitl [Hz_recv0]; · iexact Hz_recv0
    isplitl [Hz_recv1]; · iexact Hz_recv1
    iexact Hz_recv2
  iexact HO

end Body

end Cert.Mlp

end
-- ==== Proof.Launch.lean ====
/-
The launch of the four devices: the protocol's cells and duty tokens minted and dealt, each token to the device that pays
its duty, and the credit each device holds for what the others owe it.
-/
module

public import proofs.«01_k».proof.Proof.Body

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the tokens -/

theorem ownSemFacts : Pipeline.OwnSemFacts cfg0.spec osem := by decide

theorem csem_injective : Function.Injective (csem : Fin 11 → SemLoc sig) := by decide
theorem kcell_injective : Function.Injective (kcell : Dev nD × Fin 11 → GSem nD τ sig) := fun a b h =>
  Prod.ext (congrArg (fun g : GSem nD τ sig => g.1.1) h) (csem_injective (congrArg Prod.snd h))

/-- All the cells. -/
def allCells : Finset (GSem nD τ sig) := Finset.univ.map ⟨kcell, kcell_injective⟩

/-- A device's thirteen duties: three at its barrier cell, then one at each of its DMA cells. -/
abbrev dutyCell : Fin 13 → Fin 11 := fun
  | 0 => 0 | 1 => 0 | 2 => 0 | 3 => 1 | 4 => 2 | 5 => 3 | 6 => 4 | 7 => 5 | 8 => 6 | 9 => 7 | 10 => 8 | 11 => 9 | 12 => 10
abbrev dutyName : Fin 13 → Fin 3 := fun
  | 1 => 1 | 2 => 2 | _ => 0
theorem duty_injective : Function.Injective fun j : Fin 13 => (dutyCell j, dutyName j) := by decide

abbrev tokOf (cj : Dev nD × Fin 13) : GSem nD τ sig × ℕ × Fin 3 := (kcell (cj.1, dutyCell cj.2), 0, dutyName cj.2)
theorem tokOf_injective : Function.Injective tokOf := fun a b h => by
  have h1 : (a.1, dutyCell a.2) = (b.1, dutyCell b.2) := kcell_injective (congrArg Prod.fst h)
  have h2 : dutyName a.2 = dutyName b.2 := congrArg (fun x : GSem nD τ sig × ℕ × Fin 3 => x.2.2) h
  exact Prod.ext (Prod.mk.inj h1).1 (duty_injective (Prod.ext (Prod.mk.inj h1).2 h2))
/-- All the tokens. -/
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The tokens of device `c`'s own cells. -/
def toks (c : Dev nD) : sProp 𝕄 :=
  iprop(dutyTok ER (barCell c) 0 0 ∗ dutyTok ER (barCell c) 0 1 ∗ dutyTok ER (barCell c) 0 2
    ∗ dutyTok ER (dmaCell c in0) 0 0 ∗ dutyTok ER (dmaCell c in1) 0 0 ∗ dutyTok ER (dmaCell c in2) 0 0 ∗ dutyTok ER (dmaCell c outS) 0 0
    ∗ dutyTok ER (dmaCell c send0) 0 0 ∗ dutyTok ER (dmaCell c send1) 0 0 ∗ dutyTok ER (dmaCell c send2) 0 0
    ∗ dutyTok ER (dmaCell c recv0) 0 0 ∗ dutyTok ER (dmaCell c recv1) 0 0 ∗ dutyTok ER (dmaCell c recv2) 0 0)

/-- What is minted for device `c`, -/
def G (c : Dev nD) : sProp 𝕄 :=
  iprop((bigSep Finset.univ fun k : Fin 11 => roundState ER (sched m) (kcell (c, k)) 0)
    ∗ (bigSep Finset.univ fun k : Fin 11 => iprop(atPos ER (kcell (c, k)) 0 ∅ 0 ∗ reached ER (kcell (c, k)) 0)) ∗ toks c)
/-- and what it starts from once the tokens are dealt. -/
def G' (c : Dev nD) : sProp 𝕄 := iprop(∃ K, records m K ∗ stand c ∗ dues c)

omit [FloatOps F] in
theorem bigSep_eleven (Φ : Fin 11 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ
omit [FloatOps F] in
theorem bigSep_thirteen (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

/-- The protocol's element funds every device's part. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 11 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_thirteen]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

omit [FloatOps F] in
/-- The ten DMA semaphores are the kernel's own; -/
theorem ownSems_eq (c : Dev nD) :
    (Pipeline.ownSems0 (Ix := Unit) (Name := ℕ) (U := UU) (Lvl := ℕ) (Val := Elt F) (τ := τ) osem c : sProp 𝕄) = zeros c := by
  rw [Pipeline.ownSems0_eq_of_list c osem [0, 1, 2, 3, 4, 5, 6, 7, 8, 9] (by decide) (by decide)]; rfl
omit [FloatOps F] in
/-- the barrier semaphore the one that is not scoped. -/
theorem unscopedSems_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_all (c : Dev nD) :
    iprop(Pipeline.ownSems0 (Ix := Unit) (Name := ℕ) (U := UU) (Lvl := ℕ) (Val := Elt F) (τ := τ) osem c ∗ unscopedSems0 c)
      ⊢ (bigSep Finset.univ fun k : Fin 11 => semVal (kcell (c, k)) 0 : sProp 𝕄) := by
  rw [ownSems_eq, unscopedSems_eq, bigSep_eleven]
  unfold zeros
  iintro ⟨HZ, HB⟩
  isplitl [HB]; · iexact HB
  iexact HZ

/-- One device's cells get their invariants. -/
theorem alloc_one (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  have halloc : iprop((bigSep Finset.univ fun k : Fin 11 => semVal (kcell (c, k)) 0) ∗ bigSep Finset.univ fun k : Fin 11 => roundState ER (sched m) (kcell (c, k)) 0)
      ⊢ (|={Set.univ}=> bigSep Finset.univ fun k => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  unfold G
  iintro ⟨Hos, Hus, Hst, Hat, Htok⟩
  ihave Hv := (sems_all (F := F) c) $$ [Hos Hus]
  · isplitl [Hos] <;> iassumption
  imod halloc $$ [Hv Hst] with Hinv
  · isplitl [Hv] <;> iassumption
  imodintro
  isplitl [Hinv]; · iexact Hinv
  isplitl [Hat]; · iexact Hat
  iexact Htok

/-! ## Dealing the tokens -/

omit [FloatOps F] in
/-- Each token moves to the device that pays its duty; the sum over the devices of the tokens is the same. -/
theorem toks_around : (bigSep Finset.univ fun c : Dev nD => (toks c : sProp 𝕄)) ⊢ bigSep Finset.univ fun c : Dev nD => dues c := by
  unfold toks dues
  simp only [bigSep_sep']
  rw [bigSep_univ_equiv turn1 (fun c : Dev nD => (dutyTok ER (barCell c) 0 0 : sProp 𝕄)),
    bigSep_univ_equiv turn2 (fun c : Dev nD => (dutyTok ER (barCell c) 0 1 : sProp 𝕄)),
    bigSep_univ_equiv turn1.symm (fun c : Dev nD => (dutyTok ER (barCell c) 0 2 : sProp 𝕄)),
    bigSep_univ_equiv turn1.symm (fun c : Dev nD => (dutyTok ER (dmaCell c recv0) 0 0 : sProp 𝕄)),
    bigSep_univ_equiv turn2 (fun c : Dev nD => (dutyTok ER (dmaCell c recv1) 0 0 : sProp 𝕄)),
    bigSep_univ_equiv turn1 (fun c : Dev nD => (dutyTok ER (dmaCell c recv2) 0 0 : sProp 𝕄))]
  exact Entails.of_eq rfl

omit [FloatOps F] in
/-- What persists goes to every device. -/
theorem hand_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem stand_eq (c : Dev nD) : (bigSep Finset.univ fun k : Fin 11 => (atPos ER (kcell (c, k)) 0 ∅ 0 : sProp 𝕄)) = stand c := by
  rw [bigSep_eleven]; rfl

theorem deal :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 11 => iprop(∃ κ : ℕ, cellInv ER (sched m) κ (kcell ck))),
    bigSep_congr (s := Finset.univ) (fun (c : Dev nD) _ => bigSep_sep' Finset.univ (fun k : Fin 11 => (atPos ER (kcell (c, k)) 0 ∅ 0 : sProp 𝕄)) (fun k => reached ER (kcell (c, k)) 0)),
    bigSep_sep', ← bigSep_univ_prod (fun ck : Dev nD × Fin 11 => (reached ER (kcell ck) 0 : sProp 𝕄)),
    bigSep_congr (s := Finset.univ) (fun (c : Dev nD) _ => stand_eq (F := F) c)]
  iintro ⟨HI, ⟨Hat, #HR⟩, Htok⟩
  ihave HK := (BI.bigSep_exists_pi Finset.univ (fun (ck : Dev nD × Fin 11) (κ : ℕ) => (cellInv ER (sched m) κ (kcell ck) : sProp 𝕄))) $$ HI
  icases HK with ⟨%K, #HI⟩
  ihave Htk := (toks_around (F := F)) $$ Htok
  have hone (c : Dev nD) : iprop(records m K ∗ (stand c ∗ dues c)) ⊢ G' m c := by
    unfold G'
    iintro H
    iexists K; iexact H
  iapply (hand_out (R := records m K) fun c _ => hone c)
  isplitr
  · unfold records; isplitl; · iexact HI
    iexact HR
  · iapply (Entails.of_eq (bigSep_sep' Finset.univ (fun c : Dev nD => (stand c : sProp 𝕄)) dues).symm)
    isplitl [Hat]; · iexact Hat
    iexact Htk

/-- The update over all the devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_one m c).trans (bigSep_fupd _ _)).trans (BI.fupd_mono (deal m))

/-! ## The launch credit -/

/-- Two cells are the same when the device and the semaphore are. -/
theorem cell_eq_iff {a b : Dev nD} {s t : SemLoc sig} : (((a : Thread nD τ), s) : GSem nD τ sig) = ((b : Thread nD τ), t) ↔ a = b ∧ s = t :=
  ⟨fun h => ⟨congrArg (fun g : GSem nD τ sig => g.1.1) h, congrArg Prod.snd h⟩, fun ⟨h, h'⟩ => h ▸ h' ▸ rfl⟩

/-- What device `d` owes a cell of device `c` at launch, one case for each of its six debts. -/
theorem owed_at (d c : Dev nD) (s : SemLoc sig) : owe6 d ((c : Thread nD τ), s) ()
    = (if c = hop3 d ∧ s = .dma recv0 then N else 0) + (if c = hop2 d ∧ s = .dma recv1 then N else 0) + (if c = hop1 d ∧ s = .dma recv2 then N else 0)
      + (if c = hop3 d ∧ s = .reg barS then 1 else 0) + (if c = hop2 d ∧ s = .reg barS then 1 else 0) + (if c = hop1 d ∧ s = .reg barS then 1 else 0) := by
  unfold owe6 owe5 owe4 owe3 owe2 owe1
  simp only [zero_add, Pi.add_apply, Finsupp.add_apply, tallyAt_apply, cell_eq_iff, and_true]

theorem owed_bar (d c : Dev nD) : owe6 d (barCell c) ()
    = (if d = hop1 c then 1 else 0) + (if d = hop2 c then 1 else 0) + (if d = hop3 c then 1 else 0) := by
  rw [owed_at, if_neg (fun h => by cases h.2), if_neg (fun h => by cases h.2), if_neg (fun h => by cases h.2)]
  simp only [and_true, zero_add, eq_hop1_iff c d, eq_hop2_iff c d, eq_hop3_iff c d]
theorem owed_recv0 (d c : Dev nD) : owe6 d (dmaCell c recv0) () = if d = hop1 c then N else 0 := by
  rw [owed_at]
  simp [eq_hop3_iff, show ¬ (SemLoc.dma recv0 : SemLoc sig) = .dma recv1 by decide, show ¬ (SemLoc.dma recv0 : SemLoc sig) = .dma recv2 by decide]
theorem owed_recv1 (d c : Dev nD) : owe6 d (dmaCell c recv1) () = if d = hop2 c then N else 0 := by
  rw [owed_at]
  simp [eq_hop2_iff, show ¬ (SemLoc.dma recv1 : SemLoc sig) = .dma recv0 by decide, show ¬ (SemLoc.dma recv1 : SemLoc sig) = .dma recv2 by decide]
theorem owed_recv2 (d c : Dev nD) : owe6 d (dmaCell c recv2) () = if d = hop3 c then N else 0 := by
  rw [owed_at]
  simp [eq_hop1_iff, show ¬ (SemLoc.dma recv2 : SemLoc sig) = .dma recv0 by decide, show ¬ (SemLoc.dma recv2 : SemLoc sig) = .dma recv1 by decide]

/-- Three units are owed to each barrier cell, -/
theorem launch_bar (c : Dev nD) :
    tallyOn (barCell c) (launchCredit (Pipeline.owing owe6) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (hop1 c) fun _ => 1, Finset.sum_ite_eq' Finset.univ (hop2 c) fun _ => 1, Finset.sum_ite_eq' Finset.univ (hop3 c) fun _ => 1,
    if_pos (Finset.mem_univ _), if_pos (Finset.mem_univ _), if_pos (Finset.mem_univ _)]
/-- and one transfer's credit to each receive cell. -/
theorem launch_recv (q : DmaSem sig) (e : Dev nD → Dev nD) (h : ∀ d c, owe6 d (dmaCell c q) () = if d = e c then N else 0) (c : Dev nD) :
    tallyOn (dmaCell c q) (launchCredit (Pipeline.owing owe6) 0 (dmaCell c q)) = (tallyAt (dmaCell c q) () N : CellTallies nD τ sig Unit) := by
  unfold tallyAt; refine congrArg _ (Finsupp.ext fun u => ?_); cases u
  rw [Pipeline.launchCredit_owing, Finsupp.single_eq_same, Finset.sum_congr rfl fun d _ => h d c, Finset.sum_ite_eq' Finset.univ (e c) fun _ => N,
    if_pos (Finset.mem_univ _)]

omit [FloatOps F] in
theorem creds (c : Dev nD) : (Pipeline.launchCred owe6 c : sProp 𝕄) ⊢ credits c := by
  unfold Pipeline.launchCred credits
  rw [bigSep_univ_at _ (SemLoc.reg barS), launch_bar]
  refine sep_mono_right ?_
  rw [← launch_recv recv0 hop1 owed_recv0, ← launch_recv recv1 hop2 owed_recv1, ← launch_recv recv2 hop3 owed_recv2]
  have hsub : ({.dma recv0, .dma recv1, .dma recv2} : Finset (SemLoc sig)) ⊆ Finset.univ.erase (SemLoc.reg barS) := by decide
  have hlist (Φ : SemLoc sig → sProp 𝕄) : bigSep {.dma recv0, .dma recv1, .dma recv2} Φ = iprop(Φ (.dma recv0) ∗ Φ (.dma recv1) ∗ Φ (.dma recv2)) := by
    rw [bigSep_eq_bigSepL_of_eq [SemLoc.dma recv0, SemLoc.dma recv1, SemLoc.dma recv2] (by decide) (by decide)]; rfl
  rw [← hlist fun s => cred (tallyOn ((c : Thread nD τ), s) (launchCredit (Pipeline.owing owe6) 0 ((c : Thread nD τ), s)))]
  exact bigSep_subset hsub

end Cert.Mlp

end
-- ==== Proof.Run.lean ====
/-
The run of the kernel's program: on four devices, from any memory with zero counters and at any float values, every weakly
fair execution ends, with each device's result array at `outAt`, its arguments as they were and every counter at zero.
-/
module

public import proofs.«01_k».proof.Proof.Launch
public import proofs.«01_k».proof.Proof.Gen.KernelIdeal.Points
public import Idealize.ShloMosaic.Lib.Pipeline.CollectiveSegs

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The one grid point -/

/-- The kernel has no window and one grid point: what holds before it and after it. -/
def dats (_ : Fin 1) (c : Dev nD) : Pipeline.Dat τ (Elt F) Unit ℕ UU ℕ cfg0 c where
  A w := w.elim0
  after w _ := w.elim0
  Φ t := match t with
    | ⟨0, _⟩ => iprop(start m c ∗ scratch c)
    | ⟨_ + 1, _⟩ => iprop(finish m c ∗ scratch c ∗ zeros c)
  q w := w.elim0
  owed t := match t with
    | ⟨0, _⟩ => owe6 c
    | ⟨_ + 1, _⟩ => 0

/-- The kernel's body takes what holds before the point to what holds after it. -/
theorem body_obligation (c : Dev nD) : Pipeline.BodyObligation (dats m 0 c) (defs₀ (F := F)) 𝒱₀ () Set.univ := fun t => by
  rw [fin_N0 t]
  rw [bigSep_univ_eq_bigSepL ([] : List (Fin cfg0.W)) (by decide) (by decide), bigSep_univ_eq_bigSepL ([] : List (Fin cfg0.W)) (by decide) (by decide)]
  show iprop((start m c ∗ scratch c) ∗ (dats m 0 c).owesAt () t0_0.castSucc ∗ emp) ⊢ wp frame (wpE (defs₀ (F := F)) 𝒱₀ c none) Set.univ
    (bodyAt0 t0_0) (fun _ => iprop((finish m c ∗ scratch c ∗ zeros c) ∗ (dats m 0 c).owesAt () t0_0.succ ∗ emp))
  unfold Pipeline.Dat.owesAt Pipeline.owesWithin start
  rw [show (dats m 0 c).owed t0_0.castSucc = owe6 c from rfl, show (dats m 0 c).owed t0_0.succ = 0 from rfl]
  iintro ⟨⟨⟨⟨%K, HR, Hst, Hdu⟩, Hcr, Hlev, Harg, Hy⟩, Hscr⟩, ⟨%W, -, HO⟩, -⟩
  iapply (sound_body m K c _)
  isplitr []
  · isplitl [HR]; · iexact HR
    isplitl [Hst]; · iexact Hst
    isplitl [Hdu]; · iexact Hdu
    isplitl [Hcr]; · iexact Hcr
    isplitl [Hlev]; · iexact Hlev
    isplitl [Harg]; · iexact Harg
    isplitl [Hy]; · iexact Hy
    isplitl [Hscr]; · iexact Hscr
    unfold owing; iexists W; iexact HO
  · unfold owing
    iintro ⟨Hf, Hscr, Hz, ⟨%W', HO⟩⟩
    isplitl [Hf Hscr Hz]
    · isplitl [Hf]; · iexact Hf
      isplitl [Hscr]; · iexact Hscr
      iexact Hz
    isplitl [HO]
    · iexists W'
      isplitr; · ipureintro; exact fun _ _ => Or.inl trivial
      iexact HO
    · iempintro

/-! ## Into the point and out of it -/

/-- The buffers in HBM. -/
theorem rest_eq (c : Dev nD) :
    (Pipeline.unscopedRestP Pipeline.Prefetch.none cfg0.spec c (fun b => m ((c : Thread nD τ).loc b)) : sProp 𝕄)
      = iprop(buf c main_arg0 (xAt m c) ∗ buf c main_arg1 (uAt m c) ∗ buf c main_arg2 (vAt m c) ∗ buf c main_v1 (m ((c : Thread nD τ).loc main_v1))) := by
  rw [Pipeline.unscopedRestP_eq_of_list cfg0.spec c Pipeline.Prefetch.none (fun b => m ((c : Thread nD τ).loc b))
    [main_arg0, main_arg1, main_arg2, main_v1] (by decide) (by decide)]
  rfl

theorem enter (c : Dev nD) :
    iprop(Pipeline.unscopedRestP Pipeline.Prefetch.none cfg0.spec c (fun b => m ((c : Thread nD τ).loc b)) ∗ levAts L lv
        ∗ Pipeline.launchCred owe6 c ∗ prngReg c (ρ c) ∗ G' m c)
      ⊢ |={Set.univ}=> iprop(start m c ∗ emp) := by
  rw [rest_eq]
  unfold start G' arguments
  iintro ⟨⟨H0, H1, H2, H3⟩, Hlev, Hcr, -, HG⟩
  ihave Hc := (creds (F := F) c) $$ Hcr
  imodintro
  isplitl
  · isplitl [HG]; · iexact HG
    isplitl [Hc]; · iexact Hc
    isplitl [Hlev]; · iexact Hlev
    isplitl [H0 H1 H2]
    · isplitl [H0]; · iexact H0
      isplitl [H1]; · iexact H1
      iexact H2
    iexists (m ((c : Thread nD τ).loc main_v1)); iexact H3
  · iempintro

theorem into (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch
  iintro ⟨Hs, -, Hr⟩
  isplitl [Hs]; · iexact Hs
  iexact Hr

theorem out_of (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = iprop(finish m c ∗ scratch c ∗ zeros c) from rfl, scopedRest0_eq, ownSems_eq]
  unfold scratch
  iintro ⟨Hf, Hr, Hz⟩
  isplitl [Hf]; · iexact Hf
  isplitl [Hz]; · iexact Hz
  iexact Hr

/-- What a final state shows of device `c`. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_v1) = outAt m c)
  ∧ ∀ sm : SemLoc sig, sm.isScoped .tc = false → s.sem ((c : Thread nD τ), sm) = 0

omit [FloatOps F] in
/-- A buffer held whole is read off the state. -/
theorem read_off (c : Dev nD) (b : Ref sig .tc) (f : Buf (Elt F) ((c : Thread nD τ).loc b)) (s' : Phys nD τ sig (Elt F)) :
    iprop(buf c b f ∗ SI s') ⊢ (iprop(⌜s'.mem.mem ((c : Thread nD τ).loc b) = f⌝ ∗ SI s') : sProp 𝕄) := by
  unfold buf
  iintro ⟨H, HSI⟩
  icombine HSI H gives %h
  isplitr
  · ipureintro; exact Buf.eq_of_forall_mem_univ h
  · iexact HSI

theorem read_end (c : Dev nD) (s' : Phys nD τ sig (Elt F)) :
    iprop(finish m c ∗ emp ∗ SI s') ⊢ |={Set.univ}=> (iprop(⌜Ends m c s'.mem⌝ ∗ SI s') : sProp 𝕄) := by
  unfold finish arguments
  iintro ⟨⟨⟨H0, H1, H2⟩, H3, Hz⟩, -, HSI⟩
  ihave HA := (read_off c main_arg0 (xAt m c) s') $$ [H0 HSI]
  · isplitl [H0] <;> iassumption
  icases HA with ⟨%h0, HSI⟩
  ihave HA := (read_off c main_arg1 (uAt m c) s') $$ [H1 HSI]
  · isplitl [H1] <;> iassumption
  icases HA with ⟨%h1, HSI⟩
  ihave HA := (read_off c main_arg2 (vAt m c) s') $$ [H2 HSI]
  · isplitl [H2] <;> iassumption
  icases HA with ⟨%h2, HSI⟩
  ihave HA := (read_off c main_v1 (outAt m c) s') $$ [H3 HSI]
  · isplitl [H3] <;> iassumption
  icases HA with ⟨%h3, HSI⟩
  imod (Pipeline.unscopedSems0_read (X := unscopedSems0 c) (c := c) fupd_intro s') $$ [Hz HSI] with ⟨%h4, HSI⟩
  · isplitl [Hz]; · iapply (Entails.of_eq (unscopedSems_eq (F := F) c).symm); iexact Hz
    iexact HSI
  imodintro
  isplitr
  · ipureintro; exact ⟨⟨h0, h1, h2, h3⟩, h4⟩
  · iexact HSI

theorem waits (c : Dev nD) : (levAts L lv : sProp 𝕄) ⊢ Pipeline.cellsWaits cfgs (dats m) () 0 c :=
  Pipeline.cellsWaits_intro cfgs (dats m) () 0 c fun w s t => w.elim0

/-! ## The run -/

set_option maxRecDepth 8000 in
/-- Every weakly fair run ends with each device's result array at `outAt`, its arguments kept and all counters at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_v1) = outAt m c)
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := owe6) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := finish m) (Z := fun _ => iprop(emp))
    (hX := enter m ρ) (hin := into m) (hout := out_of m)
    (QY := Ends m)
    (hY := read_end m)
    (hQ := fun _ h hs => ⟨fun c => (h c).2.2.1, sem_eq_zero hs fun c => (h c).2.2.2⟩)

end Cert.Mlp

end
-- ==== Proof.Partial.lean ====
/-
What one device computes, over the extended reals and element by element: its partial product is the sum over its own 512
hidden units, and its result the sum of four partial products.
-/
module

public import proofs.«01_k».proof.Proof.Cells
public import Idealize.ShloMosaic.Lib.Pointwise

@[expose] public section

noncomputable section

namespace Cert.Mlp

open Cert.KernelIdeal Cert.KernelIdeal.Gen
open Idealize.ShloMosaic Idealize.ShloMosaic.TcCoe

/-- Hidden unit `l` of row `r`, for weights `u`. -/
def hidden {n : ℕ} (x : FVec Ideal ⟨2, ![256, 256]⟩ .f32) (u : FVec Ideal ⟨2, ![256, n]⟩ .f32) (r : Fin 256) (l : Fin n) : EReal :=
  max (∑ k : Fin 256, x (ix2 r k) * u (ix2 k l)) 0

/-- The partial product read at an element. -/
theorem pay1_at (x : Vec Ideal S256x256 .f32) (u : Vec Ideal S256x512 .f32) (v : Vec Ideal S512x256 .f32) (r l : Fin 256) :
    k0_pay1 x u v (ix2 r l) = ∑ t : Fin 512, hidden x u r t * v (ix2 t l) := by
  pointwise [k0_pay1, hidden]

/-- Rounding for the transfer changes nothing here. -/
theorem pay2_at (x : Vec Ideal S256x256 .f32) (u : Vec Ideal S256x512 .f32) (v : Vec Ideal S512x256 .f32) (r l : Fin 256) :
    k0_pay2 x u v (ix2 r l) = k0_pay1 x u v (ix2 r l) := by
  pointwise [k0_pay2]

/-- A received matrix added to the accumulator. -/
theorem pay3_at (a : FVec Ideal S256x256 .f32) (X : Vec Ideal S256x256 .bf16) (r l : Fin 256) :
    k0_pay3 a (plane X) (ix2 r l) = a (ix2 r l) + X (ix2 r l) := by
  pointwise [k0_pay3, plane]

theorem pay4_at (a : FVec Ideal S256x256 .f32) (X Y : Vec Ideal S256x256 .bf16) (r l : Fin 256) :
    k0_pay4 a (plane X) (plane Y) (ix2 r l) = a (ix2 r l) + X (ix2 r l) + Y (ix2 r l) := by
  pointwise [k0_pay4, plane]

end Cert.Mlp

end
-- ==== Proof.Reference.lean ====
/-
What the reference computes, over the extended reals and element by element: a sum over all 2048 hidden units; and the
blocks of its weights that the devices hold.
-/
module

public import proofs.«01_k».proof.Proof.Partial
public import proofs.«01_k».proof.Proof.Gen.ReferenceIdeal
public import Idealize.ShloMosaic.Lib.Layout

@[expose] public section

noncomputable section

namespace Cert.Mlp

open Idealize.ShloMosaic Idealize.ShloMosaic.TcCoe

section Ref
open Cert.ReferenceIdeal Cert.ReferenceIdeal.Gen

/-- The reference's result. -/
def refOut (x : FVec Ideal S256x256 .f32) (W1 : FVec Ideal S256x2048 .f32) (W2 : FVec Ideal S2048x256 .f32) : FVec Ideal S256x256 .bf16 :=
  truncf .bf16 (Host.dotGeneral dot_S256x2048_S2048x256_S256x256_1_0_0_1_n_n none
    (maximumf (Host.dotGeneral dot_S256x256_S256x2048_S256x2048_1_0_0_1_n_n none x W1)
      (broadcastInDim S256x2048 ![] bcast_S_S256x2048 (constant S_ .f32 0x00000000#32))) W2) bitsLt_bf16_f32

/-- The reference's result read at an element. -/
theorem refOut_at (x : FVec Ideal S256x256 .f32) (W1 : FVec Ideal S256x2048 .f32) (W2 : FVec Ideal S2048x256 .f32) (r l : Fin 256) :
    refOut x W1 W2 (ix2 r l) = ∑ n : Fin 2048, hidden x W1 r n * W2 (ix2 n l) := by
  pointwise [refOut, hidden]

end Ref

/-! ## The devices' blocks -/

/-- Hidden unit `t` of device `c`, among all of them. -/
def unit (c : Fin 4) (t : Fin 512) : Fin 2048 := ⟨c.val * 512 + t.val, by have := c.isLt; have := t.isLt; omega⟩

/-- Device `c` holds its hidden units' columns of `W1` -/
theorem block1_at (W1 : FVec Ideal ⟨2, ![256, 2048]⟩ .f32) (c : Fin 4) (k : Fin 256) (t : Fin 512) :
    Layout.block ⟨2, ![256, 512]⟩ ⟨2, ![256, 2048]⟩ 1 4 c W1 (by decide) (ix2 k t) = W1 (ix2 k (unit c t)) := by
  rw [Layout.block_apply]
  congr 1
  funext a
  match a with
  | ⟨0, _⟩ => rfl
  | ⟨1, _⟩ => rfl
/-- and their rows of `W2`. -/
theorem block2_at (W2 : FVec Ideal ⟨2, ![2048, 256]⟩ .f32) (c : Fin 4) (t : Fin 512) (l : Fin 256) :
    Layout.block ⟨2, ![512, 256]⟩ ⟨2, ![2048, 256]⟩ 0 4 c W2 (by decide) (ix2 t l) = W2 (ix2 (unit c t) l) := by
  rw [Layout.block_apply]
  congr 1
  funext a
  match a with
  | ⟨0, _⟩ => rfl
  | ⟨1, _⟩ => rfl

/-- So it computes its own hidden units as the reference does. -/
theorem hidden_block (x : FVec Ideal ⟨2, ![256, 256]⟩ .f32) (W1 : FVec Ideal ⟨2, ![256, 2048]⟩ .f32) (c : Fin 4) (r : Fin 256) (t : Fin 512) :
    hidden x (Layout.block ⟨2, ![256, 512]⟩ ⟨2, ![256, 2048]⟩ 1 4 c W1 (by decide)) r t = hidden x W1 r (unit c t) := by
  unfold hidden
  simp only [block1_at]

/-- A sum over all the hidden units is the sum of the four devices' sums. -/
theorem sum_units (f : Fin 2048 → EReal) : ∑ n : Fin 2048, f n = ∑ c : Fin 4, ∑ t : Fin 512, f (unit c t) :=
  Fin.sum_univ_tiles 4 512 rfl f

end Cert.Mlp

end
-- ==== Proof.Equation.lean ====
/-
The equation: over the extended reals, where sums may be taken in any order, every device's result is the reference's.
-/
module

public import proofs.«01_k».proof.Proof.Reference

@[expose] public section

noncomputable section

namespace Cert.Mlp

open Cert.KernelIdeal Cert.KernelIdeal.Gen
open Idealize.ShloMosaic Idealize.ShloMosaic.TcCoe

/-- Starting anywhere on the ring of four, a sum over the devices. -/
theorem sum_around (T : Dev nD → EReal) (c : Dev nD) : T c + T (hop3 c) + T (hop1 c) + T (hop2 c) = ∑ d : Fin 4, T d := by
  rw [Fin.sum_univ_four]
  fin_cases c
  · show T 0 + T 3 + T 1 + T 2 = _
    ac_rfl
  · show T 1 + T 0 + T 2 + T 3 = _
    ac_rfl
  · show T 2 + T 1 + T 3 + T 0 = _
    ac_rfl
  · show T 3 + T 2 + T 0 + T 1 = _
    ac_rfl

variable (m : (ℓ : Loc nD τ sig) → Buf (Elt Ideal) ℓ)

/-- A device's result is the four partial products' sum. -/
theorem outAt_at (c : Dev nD) (r l : Fin 256) : outAt m c (ix2 r l) = ∑ d : Fin 4, part m d (ix2 r l) := by
  rw [← sum_around (fun d => part m d (ix2 r l)) c]
  unfold outAt
  rw [pay4_at, pay3_at]
  unfold sent part
  rw [pay2_at, pay2_at, pay2_at]

/-- With the same `x` on every device, and its blocks of `W1` and `W2`, a device's result is the reference's. -/
theorem outAt_eq (x : FVec Ideal S256x256 .f32) (W1 : FVec Ideal ⟨2, ![256, 2048]⟩ .f32) (W2 : FVec Ideal ⟨2, ![2048, 256]⟩ .f32)
    (hx : ∀ c, xAt m c = x)
    (hu : ∀ c, uAt m c = Layout.block ⟨2, ![256, 512]⟩ ⟨2, ![256, 2048]⟩ 1 4 c W1 (by decide))
    (hv : ∀ c, vAt m c = Layout.block ⟨2, ![512, 256]⟩ ⟨2, ![2048, 256]⟩ 0 4 c W2 (by decide)) (c : Dev nD) :
    outAt m c = refOut x W1 W2 := by
  funext j
  obtain ⟨r, l, rfl⟩ : ∃ r l : Fin 256, j = ix2 r l := ⟨j 0, j 1, eq_ix2 j⟩
  rw [outAt_at, refOut_at, sum_units]
  refine Finset.sum_congr (M := EReal) rfl fun d _ => ?_
  unfold part
  rw [pay1_at, hx d, hu d, hv d]
  refine Finset.sum_congr (M := EReal) rfl fun t _ => ?_
  rw [hidden_block, block2_at]

end Cert.Mlp

end
-- ==== Proof.lean ====
/-
The certificate's claims, from the kernel's run (Run.lean), the reference's (generated) and the equation of their
results (Equation.lean).
-/
module

public import proofs.«01_k».proof.Proof.Gen.ReferenceIdeal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Equation
public import Idealize.ShloMosaic.Lib.Quiescent

@[expose] public section

noncomputable section

namespace Cert.Proof

open Idealize.ShloMosaic Idealize.SL.Sem

/-- The kernel terminates, changes no argument, and leaves every counter at zero. Its text is the ideal program's, so
this is that program's run over words. -/
theorem frame_kernel : Cert.quiescent_Kernel := fun m ρ _ =>
  (θ_run Cert.KernelIdeal.defs _ _).mono (fun _ h => ⟨fun c => ⟨(h.1 c).1, (h.1 c).2.1, (h.1 c).2.2.1⟩, h.2⟩) (Mlp.run_main (F := Bits) m ρ)

/-- The same of the ideal program. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (Mlp.run_main (F := Ideal) m ρ)

/-- The same of the reference, which declares no semaphore. -/
theorem frame_reference : Cert.quiescent_ReferenceIdeal := fun m ρ _ =>
  (θ_run Cert.ReferenceIdeal.defs _ _).mono (fun _ h => ⟨fun c => (h c).2, sem_eq_zero_of_no_sems (by decide) _⟩)
    (Cert.ReferenceIdeal.Value.run (F := Ideal) m ρ)

/-- From `x` on every device and the devices' blocks of `W1` and `W2`, every device's result is the reference's. -/
theorem algebraic : Cert.algebraic_KernelIdeal_ReferenceIdeal := fun m ρ m' ρ' _ hin =>
  ⟨_, (θ_run Cert.KernelIdeal.defs _ _).mono
      (fun _ h c => ⟨(h.1 c).2.2.2.trans (Mlp.outAt_eq m _ _ _ (fun d => (hin d).1) (fun d => (hin d).2.1) (fun d => (hin d).2.2) c),
        (h.1 c).1, (h.1 c).2.1, (h.1 c).2.2.1⟩)
      (Mlp.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
